-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "floor_sq" .f32 0x179ABE15#32 ((5316911940649 / 5316911983139663491615228241121378304 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_v108) = v1 c
          ∧ r.2.mem ((c.tc : Thread Cert.ReferenceIdeal.nD Cert.ReferenceIdeal.τ).loc Cert.ReferenceIdeal.main_v132) = v2 c
          ∧ r.2.mem ((c.tc : Thread Cert.ReferenceIdeal.nD Cert.ReferenceIdeal.τ).loc Cert.ReferenceIdeal.main_v156) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x4096x2048 : Shape := ⟨3, ![4, 4096, 2048]⟩
abbrev S4x4096 : Shape := ⟨2, ![4, 4096]⟩
abbrev S64x2048 : Shape := ⟨2, ![64, 2048]⟩
abbrev S64 : Shape := ⟨1, ![64]⟩
abbrev S192x64 : Shape := ⟨2, ![192, 64]⟩
abbrev S4x2x1x2048 : Shape := ⟨4, ![4, 2, 1, 2048]⟩
abbrev S1x64 : Shape := ⟨2, ![1, 64]⟩
abbrev S4x64 : Shape := ⟨2, ![4, 64]⟩
abbrev S1x2048x2048 : Shape := ⟨3, ![1, 2048, 2048]⟩
abbrev S1x1x1x2048 : Shape := ⟨4, ![1, 1, 1, 2048]⟩
abbrev S4x192 : Shape := ⟨2, ![4, 192]⟩
abbrev S2048x2048 : Shape := ⟨2, ![2048, 2048]⟩
abbrev S2048x64 : Shape := ⟨2, ![2048, 64]⟩
abbrev S192 : Shape := ⟨1, ![192]⟩
abbrev S192x1 : Shape := ⟨2, ![192, 1]⟩
abbrev S2048x192 : Shape := ⟨2, ![2048, 192]⟩
abbrev S2048 : Shape := ⟨1, ![2048]⟩
abbrev S2048x1 : Shape := ⟨2, ![2048, 1]⟩
abbrev S1x2048 : Shape := ⟨2, ![1, 2048]⟩
abbrev S1x192 : Shape := ⟨2, ![1, 192]⟩
abbrev S4x1 : Shape := ⟨2, ![4, 1]⟩
abbrev S4x64x1 : Shape := ⟨3, ![4, 64, 1]⟩
abbrev S4x1x64 : Shape := ⟨3, ![4, 1, 64]⟩
abbrev S4x64x64 : Shape := ⟨3, ![4, 64, 64]⟩
abbrev S1x64x64 : Shape := ⟨3, ![1, 64, 64]⟩
abbrev S4 : Shape := ⟨1, ![4]⟩

abbrev nBuf : Space → Nat
  | .hbm => 11
  | .vmem => 12
  | .smem => 0
  | _ => 0

abbrev bufTy : (tb : Table) → Fin (tcTables nBuf tb) → BufTy
  | .hbm, ⟨0, _⟩ => ⟨S4x4096x2048, .f32⟩
  | .hbm, ⟨1, _⟩ => ⟨S4x4096, .f32⟩
  | .hbm, ⟨2, _⟩ => ⟨S64x2048, .f32⟩
  | .hbm, ⟨3, _⟩ => ⟨S64, .f32⟩
  | .hbm, ⟨4, _⟩ => ⟨S192x64, .f32⟩
  | .hbm, ⟨5, _⟩ => ⟨S4x2x1x2048, .f32⟩
  | .hbm, ⟨6, _⟩ => ⟨S1x64, .f32⟩
  | .hbm, ⟨7, _⟩ => ⟨S4x64, .f32⟩
  | .hbm, ⟨8, _⟩ => ⟨S4x64, .f32⟩
  | .hbm, ⟨9, _⟩ => ⟨S4x64, .f32⟩
  | .hbm, ⟨10, _⟩ => ⟨S4x64, .f32⟩
  | .local _ .vmem, ⟨0, _⟩ => ⟨S1x2048x2048, .f32⟩
  | .local _ .vmem, ⟨1, _⟩ => ⟨S1x2048x2048, .f32⟩
  | .local _ .vmem, ⟨2, _⟩ => ⟨S1x1x1x2048, .f32⟩
  | .local _ .vmem, ⟨3, _⟩ => ⟨S1x1x1x2048, .f32⟩
  | .local _ .vmem, ⟨4, _⟩ => ⟨S64x2048, .f32⟩
  | .local _ .vmem, ⟨5, _⟩ => ⟨S1x64, .f32⟩
  | .local _ .vmem, ⟨6, _⟩ => ⟨S192x64, .f32⟩
  | .local _ .vmem, ⟨7, _⟩ => ⟨S4x64, .f32⟩
  | .local _ .vmem, ⟨8, _⟩ => ⟨S4x64, .f32⟩
  | .local _ .vmem, ⟨9, _⟩ => ⟨S4x64, .f32⟩
  | .local _ .vmem, ⟨10, _⟩ => ⟨S4x64, .f32⟩
  | .local _ .vmem, ⟨11, _⟩ => ⟨S4x192, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10

abbrev nD : Nat := 1
abbrev τ : Topo := Topo.v7x

variable {F : FTy → Type} [FloatOps F]

abbrev grid0 : Pipeline.Grid := ⟨2, ![4, 2], ![false, false]⟩

def k0_cond2 (i : grid0.Coords) : BitVec 1 :=
  let arg0 : BitVec 32 := BitVec.ofNat 32 (i 0).val
  let c3_i32 : BitVec 32 := 3#32
  let v70 : BitVec 1 := Scalar.cmpi .eq arg0 c3_i32
  let arg1 : BitVec 32 := BitVec.ofNat 32 (i 1).val
  let c1_i32 : BitVec 32 := 1#32
  let v71 : BitVec 1 := Scalar.cmpi .eq arg1 c1_i32
  let v72 : BitVec 1 := Scalar.andi v70 v71
  let v73 : BitVec 32 := Scalar.extui v72
  let c0_i32_28 : BitVec 32 := 0#32
  let v74 : BitVec 1 := Scalar.cmpi .ne v73 c0_i32_28
  v74

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x2048x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S64x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S192x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== KernelIdeal.lean ====
variable {F : FTy → Type} [FloatOps F] [Named F]
def κ : String → Option EReal := fun
  | "floor_sq" => some ((5316911940649 / 5316911983139663491615228241121378304 : ℝ) : EReal)
  | _ => none
-- ==== ReferenceIdeal.lean ====
abbrev S4x4096x2048 : Shape := ⟨3, ![4, 4096, 2048]⟩
abbrev S4x4096 : Shape := ⟨2, ![4, 4096]⟩
abbrev S64x2048 : Shape := ⟨2, ![64, 2048]⟩
abbrev S64 : Shape := ⟨1, ![64]⟩
abbrev S192x64 : Shape := ⟨2, ![192, 64]⟩
abbrev S4x4096x64 : Shape := ⟨3, ![4, 4096, 64]⟩
abbrev S1x1x64 : Shape := ⟨3, ![1, 1, 64]⟩
abbrev S_ : Shape := ⟨0, ![]⟩
abbrev S192 : Shape := ⟨1, ![192]⟩
abbrev S192x1 : Shape := ⟨2, ![192, 1]⟩
abbrev S4x4096x192 : Shape := ⟨3, ![4, 4096, 192]⟩
abbrev S4x4096x1 : Shape := ⟨3, ![4, 4096, 1]⟩
abbrev S4x64 : Shape := ⟨2, ![4, 64]⟩
abbrev S4x8 : Shape := ⟨2, ![4, 8]⟩
abbrev S4 : Shape := ⟨1, ![4]⟩
abbrev S4x1 : Shape := ⟨2, ![4, 1]⟩
abbrev S4x8x1 : Shape := ⟨3, ![4, 8, 1]⟩
abbrev S4x8x2 : Shape := ⟨3, ![4, 8, 2]⟩
abbrev S4x4 : Shape := ⟨2, ![4, 4]⟩
abbrev S4x4x1 : Shape := ⟨3, ![4, 4, 1]⟩
abbrev S4x4x2 : Shape := ⟨3, ![4, 4, 2]⟩
abbrev S4x6 : Shape := ⟨2, ![4, 6]⟩
abbrev S4x6x1 : Shape := ⟨3, ![4, 6, 1]⟩
abbrev S4x6x2 : Shape := ⟨3, ![4, 6, 2]⟩

abbrev nBuf : Space → Nat
  | .hbm => 215
  | .vmem => 0
  | .smem => 0
  | _ => 0

abbrev hbmTy0_0 (i : Nat) : BufTy := match i % 128 with
  | 0 => ⟨S4x4096x2048, .f32⟩
  | 1 => ⟨S4x4096, .f32⟩
  | 2 => ⟨S64x2048, .f32⟩
  | 3 => ⟨S64, .f32⟩
  | 4 => ⟨S192x64, .f32⟩
  | 5 => ⟨S4x4096x64, .f32⟩
  | 6 => ⟨S1x1x64, .f32⟩
  | 7 => ⟨S4x4096x64, .f32⟩
  | 8 => ⟨S4x4096x64, .f32⟩
  | 9 => ⟨S192x64, .f32⟩
  | 10 => ⟨S_, .f32⟩
  | 11 => ⟨S192, .f32⟩
  | 12 => ⟨S192x1, .f32⟩
  | 13 => ⟨S192x1, .f32⟩
  | 14 => ⟨S_, .f32⟩
  | 15 => ⟨S192x1, .f32⟩
  | 16 => ⟨S192x1, .f32⟩
  | 17 => ⟨S192x64, .f32⟩
  | 18 => ⟨S192x64, .f32⟩
  | 19 => ⟨S4x4096x192, .f32⟩
  | 20 => ⟨S4x4096x64, .f32⟩
  | 21 => ⟨S4x4096x64, .f32⟩
  | 22 => ⟨S4x4096x64, .f32⟩
  | 23 => ⟨S_, .f32⟩
  | 24 => ⟨S4x4096, .f32⟩
  | 25 => ⟨S_, .f32⟩
  | 26 => ⟨S4x4096, .f32⟩
  | 27 => ⟨S4x4096, .f32⟩
  | 28 => ⟨S4x4096x1, .f32⟩
  | 29 => ⟨S4x4096x64, .f32⟩
  | 30 => ⟨S4x4096x64, .f32⟩
  | 31 => ⟨S4x4096x64, .f32⟩
  | 32 => ⟨S_, .f32⟩
  | 33 => ⟨S4x4096, .f32⟩
  | 34 => ⟨S4x4096x1, .f32⟩
  | 35 => ⟨S4x4096x64, .f32⟩
  | 36 => ⟨S4x4096x64, .f32⟩
  | 37 => ⟨S_, .f32⟩
  | 38 => ⟨S4x4096, .f32⟩
  | 39 => ⟨S_, .f32⟩
  | 40 => ⟨S4x4096, .f32⟩
  | 41 => ⟨S4x4096, .f32⟩
  | 42 => ⟨S4x4096x1, .f32⟩
  | 43 => ⟨S4x4096x64, .f32⟩
  | 44 => ⟨S4x4096x64, .f32⟩
  | 45 => ⟨S4x4096x64, .f32⟩
  | 46 => ⟨S_, .f32⟩
  | 47 => ⟨S4x4096, .f32⟩
  | 48 => ⟨S4x4096x1, .f32⟩
  | 49 => ⟨S4x4096x64, .f32⟩
  | 50 => ⟨S4x4096x64, .f32⟩
  | 51 => ⟨S_, .f32⟩
  | 52 => ⟨S4x4096, .f32⟩
  | 53 => ⟨S_, .f32⟩
  | 54 => ⟨S4x4096, .f32⟩
  | 55 => ⟨S4x4096, .f32⟩
  | 56 => ⟨S4x4096x1, .f32⟩
  | 57 => ⟨S4x4096x64, .f32⟩
  | 58 => ⟨S4x4096x64, .f32⟩
  | 59 => ⟨S4x4096x64, .f32⟩
  | 60 => ⟨S_, .f32⟩
  | 61 => ⟨S4x4096, .f32⟩
  | 62 => ⟨S4x4096x1, .f32⟩
  | 63 => ⟨S4x4096x64, .f32⟩
  | 64 => ⟨S4x4096x64, .f32⟩
  | 65 => ⟨S_, .f32⟩
  | 66 => ⟨S4x4096, .f32⟩
  | 67 => ⟨S_, .f32⟩
  | 68 => ⟨S4x4096, .f32⟩
  | 69 => ⟨S4x4096, .f32⟩
  | 70 => ⟨S4x4096x1, .f32⟩
  | 71 => ⟨S4x4096x64, .f32⟩
  | 72 => ⟨S4x4096x64, .f32⟩
  | 73 => ⟨S4x4096x64, .f32⟩
  | 74 => ⟨S_, .f32⟩
  | 75 => ⟨S4x4096, .f32⟩
  | 76 => ⟨S4x4096x1, .f32⟩
  | 77 => ⟨S4x4096x64, .f32⟩
  | 78 => ⟨S4x4096x64, .f32⟩
  | 79 => ⟨S4x64, .f32⟩
  | 80 => ⟨S4x64, .f32⟩
  | 81 => ⟨S4x64, .f32⟩
  | 82 => ⟨S4x64, .f32⟩
  | 83 => ⟨S4x8, .f32⟩
  | 84 => ⟨S4x8, .i32⟩
  | 85 => ⟨S_, .f32⟩
  | 86 => ⟨S4x64, .f32⟩
  | 87 => ⟨S4, .i32⟩
  | 88 => ⟨S4x1, .i32⟩
  | 89 => ⟨S_, .i32⟩
  | 90 => ⟨S4x1, .i32⟩
  | 91 => ⟨S4x1, .i1⟩
  | 92 => ⟨S_, .i32⟩
  | 93 => ⟨S4x1, .i32⟩
  | 94 => ⟨S4x1, .i32⟩
  | 95 => ⟨S4x1, .i32⟩
  | 96 => ⟨S_, .i32⟩
  | 97 => ⟨S4x8, .i32⟩
  | 98 => ⟨S4x8, .i1⟩
  | 99 => ⟨S_, .i32⟩
  | 100 => ⟨S4x8, .i32⟩
  | 101 => ⟨S4x8, .i32⟩
  | 102 => ⟨S4x8, .i32⟩
  | 103 => ⟨S4x8, .i32⟩
  | 104 => ⟨S4x8x1, .i32⟩
  | 105 => ⟨S4x8x1, .i32⟩
  | 106 => ⟨S4x8x2, .i32⟩
  | 107 => ⟨S4x64, .f32⟩
  | 108 => ⟨S_, .f32⟩
  | 109 => ⟨S4, .f32⟩
  | 110 => ⟨S4x1, .f32⟩
  | 111 => ⟨S_, .f32⟩
  | 112 => ⟨S4x1, .f32⟩
  | 113 => ⟨S4x1, .f32⟩
  | 114 => ⟨S4x64, .f32⟩
  | 115 => ⟨S4x64, .f32⟩
  | 116 => ⟨S4x4, .f32⟩
  | 117 => ⟨S4x4, .i32⟩
  | 118 => ⟨S_, .f32⟩
  | 119 => ⟨S4x64, .f32⟩
  | 120 => ⟨S4, .i32⟩
  | 121 => ⟨S4x1, .i32⟩
  | 122 => ⟨S_, .i32⟩
  | 123 => ⟨S4x1, .i32⟩
  | 124 => ⟨S4x1, .i1⟩
  | 125 => ⟨S_, .i32⟩
  | 126 => ⟨S4x1, .i32⟩
  | 127 => ⟨S4x1, .i32⟩
  | _ => ⟨S4x4096x2048, .f32⟩

abbrev hbmTy0_1 (i : Nat) : BufTy := match i % 128 with
  | 0 => ⟨S4x1, .i32⟩
  | 1 => ⟨S_, .i32⟩
  | 2 => ⟨S4x4, .i32⟩
  | 3 => ⟨S4x4, .i1⟩
  | 4 => ⟨S_, .i32⟩
  | 5 => ⟨S4x4, .i32⟩
  | 6 => ⟨S4x4, .i32⟩
  | 7 => ⟨S4x4, .i32⟩
  | 8 => ⟨S4x4, .i32⟩
  | 9 => ⟨S4x4x1, .i32⟩
  | 10 => ⟨S4x4x1, .i32⟩
  | 11 => ⟨S4x4x2, .i32⟩
  | 12 => ⟨S4x64, .f32⟩
  | 13 => ⟨S_, .f32⟩
  | 14 => ⟨S4, .f32⟩
  | 15 => ⟨S4x1, .f32⟩
  | 16 => ⟨S_, .f32⟩
  | 17 => ⟨S4x1, .f32⟩
  | 18 => ⟨S4x1, .f32⟩
  | 19 => ⟨S4x64, .f32⟩
  | 20 => ⟨S4x64, .f32⟩
  | 21 => ⟨S4x4, .f32⟩
  | 22 => ⟨S4x4, .i32⟩
  | 23 => ⟨S_, .f32⟩
  | 24 => ⟨S4x64, .f32⟩
  | 25 => ⟨S4, .i32⟩
  | 26 => ⟨S4x1, .i32⟩
  | 27 => ⟨S_, .i32⟩
  | 28 => ⟨S4x1, .i32⟩
  | 29 => ⟨S4x1, .i1⟩
  | 30 => ⟨S_, .i32⟩
  | 31 => ⟨S4x1, .i32⟩
  | 32 => ⟨S4x1, .i32⟩
  | 33 => ⟨S4x1, .i32⟩
  | 34 => ⟨S_, .i32⟩
  | 35 => ⟨S4x4, .i32⟩
  | 36 => ⟨S4x4, .i1⟩
  | 37 => ⟨S_, .i32⟩
  | 38 => ⟨S4x4, .i32⟩
  | 39 => ⟨S4x4, .i32⟩
  | 40 => ⟨S4x4, .i32⟩
  | 41 => ⟨S4x4, .i32⟩
  | 42 => ⟨S4x4x1, .i32⟩
  | 43 => ⟨S4x4x1, .i32⟩
  | 44 => ⟨S4x4x2, .i32⟩
  | 45 => ⟨S4x64, .f32⟩
  | 46 => ⟨S_, .f32⟩
  | 47 => ⟨S4, .f32⟩
  | 48 => ⟨S4x1, .f32⟩
  | 49 => ⟨S_, .f32⟩
  | 50 => ⟨S4x1, .f32⟩
  | 51 => ⟨S4x1, .f32⟩
  | 52 => ⟨S4x64, .f32⟩
  | 53 => ⟨S4x64, .f32⟩
  | 54 => ⟨S4x6, .f32⟩
  | 55 => ⟨S4x6, .i32⟩
  | 56 => ⟨S_, .f32⟩
  | 57 => ⟨S4x64, .f32⟩
  | 58 => ⟨S4, .i32⟩
  | 59 => ⟨S4x1, .i32⟩
  | 60 => ⟨S_, .i32⟩
  | 61 => ⟨S4x1, .i32⟩
  | 62 => ⟨S4x1, .i1⟩
  | 63 => ⟨S_, .i32⟩
  | 64 => ⟨S4x1, .i32⟩
  | 65 => ⟨S4x1, .i32⟩
  | 66 => ⟨S4x1, .i32⟩
  | 67 => ⟨S_, .i32⟩
  | 68 => ⟨S4x6, .i32⟩
  | 69 => ⟨S4x6, .i1⟩
  | 70 => ⟨S_, .i32⟩
  | 71 => ⟨S4x6, .i32⟩
  | 72 => ⟨S4x6, .i32⟩
  | 73 => ⟨S4x6, .i32⟩
  | 74 => ⟨S4x6, .i32⟩
  | 75 => ⟨S4x6x1, .i32⟩
  | 76 => ⟨S4x6x1, .i32⟩
  | 77 => ⟨S4x6x2, .i32⟩
  | 78 => ⟨S4x64, .f32⟩
  | 79 => ⟨S_, .f32⟩
  | 80 => ⟨S4, .f32⟩
  | 81 => ⟨S4x1, .f32⟩
  | 82 => ⟨S_, .f32⟩
  | 83 => ⟨S4x1, .f32⟩
  | 84 => ⟨S4x1, .f32⟩
  | 85 => ⟨S4x64, .f32⟩
  | 86 => ⟨S4x64, .f32⟩
  | _ => ⟨S4x4096x2048, .f32⟩

abbrev hbmTy (i : Nat) : BufTy := match i / 128 with
  | 0 => hbmTy0_0 i
  | 1 => hbmTy0_1 i
  | _ => ⟨S4x4096x2048, .f32⟩

abbrev bufTy : (tb : Table) → Fin (tcTables nBuf tb) → BufTy
  | .hbm, ⟨i, _⟩ => hbmTy i
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_v0 : Ref sig .tc := ⟨.hbm, 9, rfl⟩
abbrev main_call0_cst : Ref sig .tc := ⟨.hbm, 10, rfl⟩
abbrev main_call0_v1 : Ref sig .tc := ⟨.hbm, 11, rfl⟩
abbrev main_call0_v2 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_6 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_9 : Ref sig .tc := ⟨.hbm, 65, rfl⟩
abbrev main_v46 : Ref sig .tc := ⟨.hbm, 66, rfl⟩
abbrev main_cst_10 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_11 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_values : Ref sig .tc := ⟨.hbm, 83, rfl⟩
abbrev main_indices : Ref sig .tc := ⟨.hbm, 84, rfl⟩
abbrev main_cst_12 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_c : Ref sig .tc := ⟨.hbm, 89, rfl⟩
abbrev main_v64 : Ref sig .tc := ⟨.hbm, 90, rfl⟩
abbrev main_v65 : Ref sig .tc := ⟨.hbm, 91, rfl⟩
abbrev main_c_13 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_c_14 : Ref sig .tc := ⟨.hbm, 96, rfl⟩
abbrev main_v69 : Ref sig .tc := ⟨.hbm, 97, rfl⟩
abbrev main_v70 : Ref sig .tc := ⟨.hbm, 98, rfl⟩
abbrev main_c_15 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_cst_16 : Ref sig .tc := ⟨.hbm, 108, rfl⟩
abbrev main_v79 : Ref sig .tc := ⟨.hbm, 109, rfl⟩
abbrev main_v80 : Ref sig .tc := ⟨.hbm, 110, rfl⟩
abbrev main_cst_17 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_values_18 : Ref sig .tc := ⟨.hbm, 116, rfl⟩
abbrev main_indices_19 : Ref sig .tc := ⟨.hbm, 117, rfl⟩
abbrev main_cst_20 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_c_21 : Ref sig .tc := ⟨.hbm, 122, rfl⟩
abbrev main_v88 : Ref sig .tc := ⟨.hbm, 123, rfl⟩
abbrev main_v89 : Ref sig .tc := ⟨.hbm, 124, rfl⟩
abbrev main_c_22 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_c_23 : Ref sig .tc := ⟨.hbm, 129, rfl⟩
abbrev main_v93 : Ref sig .tc := ⟨.hbm, 130, rfl⟩
abbrev main_v94 : Ref sig .tc := ⟨.hbm, 131, rfl⟩
abbrev main_c_24 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_cst_25 : Ref sig .tc := ⟨.hbm, 141, rfl⟩
abbrev main_v103 : Ref sig .tc := ⟨.hbm, 142, rfl⟩
abbrev main_v104 : Ref sig .tc := ⟨.hbm, 143, rfl⟩
abbrev main_cst_26 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_values_27 : Ref sig .tc := ⟨.hbm, 149, rfl⟩
abbrev main_indices_28 : Ref sig .tc := ⟨.hbm, 150, rfl⟩
abbrev main_cst_29 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_c_30 : Ref sig .tc := ⟨.hbm, 155, rfl⟩
abbrev main_v112 : Ref sig .tc := ⟨.hbm, 156, rfl⟩
abbrev main_v113 : Ref sig .tc := ⟨.hbm, 157, rfl⟩
abbrev main_c_31 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_c_32 : Ref sig .tc := ⟨.hbm, 162, rfl⟩
abbrev main_v117 : Ref sig .tc := ⟨.hbm, 163, rfl⟩
abbrev main_v118 : Ref sig .tc := ⟨.hbm, 164, rfl⟩
abbrev main_c_33 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_cst_34 : Ref sig .tc := ⟨.hbm, 174, rfl⟩
abbrev main_v127 : Ref sig .tc := ⟨.hbm, 175, rfl⟩
abbrev main_v128 : Ref sig .tc := ⟨.hbm, 176, rfl⟩
abbrev main_cst_35 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_values_36 : Ref sig .tc := ⟨.hbm, 182, rfl⟩
abbrev main_indices_37 : Ref sig .tc := ⟨.hbm, 183, rfl⟩
abbrev main_cst_38 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_c_39 : Ref sig .tc := ⟨.hbm, 188, rfl⟩
abbrev main_v136 : Ref sig .tc := ⟨.hbm, 189, rfl⟩
abbrev main_v137 : Ref sig .tc := ⟨.hbm, 190, rfl⟩
abbrev main_c_40 : Ref sig .tc := ⟨.hbm, 191, rfl⟩
abbrev main_v138 : Ref sig .tc := ⟨.hbm, 192, rfl⟩
abbrev main_v139 : Ref sig .tc := ⟨.hbm, 193, rfl⟩
abbrev main_v140 : Ref sig .tc := ⟨.hbm, 194, rfl⟩
abbrev main_c_41 : Ref sig .tc := ⟨.hbm, 195, rfl⟩
abbrev main_v141 : Ref sig .tc := ⟨.hbm, 196, rfl⟩
abbrev main_v142 : Ref sig .tc := ⟨.hbm, 197, rfl⟩
abbrev main_c_42 : Ref sig .tc := ⟨.hbm, 198, rfl⟩
abbrev main_v143 : Ref sig .tc := ⟨.hbm, 199, rfl⟩
abbrev main_v144 : Ref sig .tc := ⟨.hbm, 200, rfl⟩
abbrev main_v145 : Ref sig .tc := ⟨.hbm, 201, rfl⟩
abbrev main_v146 : Ref sig .tc := ⟨.hbm, 202, rfl⟩
abbrev main_v147 : Ref sig .tc := ⟨.hbm, 203, rfl⟩
abbrev main_v148 : Ref sig .tc := ⟨.hbm, 204, rfl⟩
abbrev main_v149 : Ref sig .tc := ⟨.hbm, 205, rfl⟩
abbrev main_v150 : Ref sig .tc := ⟨.hbm, 206, rfl⟩
abbrev main_cst_43 : Ref sig .tc := ⟨.hbm, 207, rfl⟩
abbrev main_v151 : Ref sig .tc := ⟨.hbm, 208, rfl⟩
abbrev main_v152 : Ref sig .tc := ⟨.hbm, 209, rfl⟩
abbrev main_cst_44 : Ref sig .tc := ⟨.hbm, 210, rfl⟩
abbrev main_v153 : Ref sig .tc := ⟨.hbm, 211, rfl⟩
abbrev main_v154 : Ref sig .tc := ⟨.hbm, 212, rfl⟩
abbrev main_v155 : Ref sig .tc := ⟨.hbm, 213, rfl⟩
abbrev main_v156 : Ref sig .tc := ⟨.hbm, 214, rfl⟩

abbrev nD : Nat := 1
abbrev τ : Topo := Topo.v7x

variable {F : FTy → Type} [FloatOps F]
-- ==== Proof.Spec.lean ====
/-
  THE ROUTER, BY COORDINATES. What both programs compute, as functions of the arguments' entries over the extended
  reals, with no program named: the projected token, the embeddings divided by their norms, the three groups of sixty-four
  scores, a softmax within a group, the importance-weighted sum over the tokens, and the best few of a row renormalised.
-/
module

public import Idealize.ShloMosaic.PureOps.Ideal

@[expose] public section

noncomputable section

namespace Cert.Router

open Idealize.ShloMosaic

/-- The embeddings: 192 rows of 64 entries. -/
abbrev Emb : Type := Fin 192 → Fin 64 → EReal

/-- The projection: 64 rows of 2048 entries. -/
abbrev Proj : Type := Fin 64 → Fin 2048 → EReal

/-- The embeddings, each row divided by its norm, the norm bounded below. -/
def direction (E : Emb) (n : Fin 192) (d : Fin 64) : EReal :=
  Ideal.div (E n d) (max (Ideal.sqrt (∑ k, E n k * E n k)) (Ideal.ofBits .f32 0x2B8CBCCC#32))

/-- One token projected to sixty-four entries. -/
def hidden (x : Fin 2048 → EReal) (W : Proj) (B : Fin 64 → EReal) (d : Fin 64) : EReal :=
  (∑ k, x k * W d k) + B d

/-- One token's score against neuron `n`. -/
def score (x : Fin 2048 → EReal) (W : Proj) (B : Fin 64 → EReal) (E : Emb) (n : Fin 192) : EReal :=
  ∑ d, hidden x W B d * direction E n d

/-- The greatest of sixty-four scores. -/
def peak (l : Fin 64 → EReal) : EReal := Finset.univ.fold max (Ideal.ofBits .f32 0xFF800000#32) l

/-- The softmax of sixty-four scores, read at one of them. -/
def softmax (l : Fin 64 → EReal) (n : Fin 64) : EReal :=
  Ideal.div (Ideal.exp (l n - peak l)) (∑ k, Ideal.exp (l k - peak l))

/-- Neuron `n` of group `g` among all 192. -/
def neuron (g : Fin 3) (n : Fin 64) : Fin 192 := ⟨64 * g.val + n.val, by omega⟩

/-- One token's preference within group `g`. -/
def preference (x : Fin 2048 → EReal) (W : Proj) (B : Fin 64 → EReal) (E : Emb) (g : Fin 3) (n : Fin 64) : EReal :=
  softmax (fun k => score x W B E (neuron g k)) n

/-- How many entries of a row come before entry `n`: the greater ones, and the equal ones at a smaller position. -/
def place (w : Fin 64 → EReal) (n : Fin 64) : ℕ :=
  (Finset.univ.filter fun j => w n < w j ∨ (w j = w n ∧ j < n)).card

/-- A row with all but its `k` best entries set to zero. -/
def best (k : ℕ) (w : Fin 64 → EReal) (n : Fin 64) : EReal := if place w n < k then w n else 0

/-- The best `k` entries of a row, divided by their sum and a small constant. -/
def routed (k : ℕ) (w : Fin 64 → EReal) (n : Fin 64) : EReal :=
  Ideal.div (best k w n) ((∑ j, best k w j) + Ideal.ofBits .f32 0x322BCC77#32)

end Cert.Router

end
-- ==== Proof.Weights.lean ====
/-
  THE WEIGHTS, from the five arguments as arrays: for each sequence, group and neuron, the preferences of the tokens, each
  times the token's importance.
-/
module

public import proofs.«01_k».proof.Proof.Spec
public import Idealize.ShloMosaic.Lib.Pointwise

@[expose] public section

noncomputable section

namespace Cert.Router

open Idealize.ShloMosaic

variable (x0 : (⟨3, ![4, 4096, 2048]⟩ : Shape).Idx → EReal) (x1 : (⟨2, ![4, 4096]⟩ : Shape).Idx → EReal)
  (x2 : (⟨2, ![64, 2048]⟩ : Shape).Idx → EReal) (x3 : (⟨1, ![64]⟩ : Shape).Idx → EReal)
  (x4 : (⟨2, ![192, 64]⟩ : Shape).Idx → EReal)

/-- One token's preference, from the arguments. -/
def prefs (b : Fin 4) (s : Fin 4096) (g : Fin 3) (n : Fin 64) : EReal :=
  preference (fun k => x0 (ix3 b s k)) (fun d k => x2 (ix2 d k)) (fun d => x3 (ix1 d)) (fun n d => x4 (ix2 n d)) g n

/-- The weights of one sequence, from the arguments. -/
def weights (b : Fin 4) (g : Fin 3) (n : Fin 64) : EReal := ∑ s, x1 (ix2 b s) * prefs x0 x2 x3 x4 b s g n

end Cert.Router

end
-- ==== Proof.Norm.lean ====
/-
  A ROW DIVIDED BY ITS NORM, TWO WAYS. The kernel multiplies an entry by the reciprocal square root of the row's sum of
  squares, bounded below by the square of the norm's floor; the reference divides by the square root bounded below by the
  floor. The two agree over the extended reals, an infinite sum of squares included.
-/
module

public import proofs.«01_k».proof.Proof.Spec
public import Idealize.ShloMosaic.Lib.Pointwise

@[expose] public section

noncomputable section

namespace Cert.Router

open Idealize.ShloMosaic

/-- The norm's floor, as the reference prints it. -/
theorem floor_word : Ideal.ofBits .f32 0x2B8CBCCC#32 = ((2305843 / 2305843009213693952 : ℝ) : EReal) := by
  simp [Ideal.ofBits, Ideal.ieee, -EReal.coe_mul]
  norm_num

/-- An entry times the reciprocal root of a floored sum of squares is the entry over the floored root. -/
theorem inverse_norm (x s : EReal) (hs : 0 ≤ s) :
    x * Ideal.rsqrt (max s ((5316911940649 / 5316911983139663491615228241121378304 : ℝ) : EReal))
      = Ideal.div x (max (Ideal.sqrt s) (Ideal.ofBits .f32 0x2B8CBCCC#32)) := by
  rw [floor_word]
  have hc : (5316911940649 / 5316911983139663491615228241121378304 : ℝ) = (2305843 / 2305843009213693952) ^ 2 := by
    norm_num
  have hf : (0 : ℝ) < 2305843 / 2305843009213693952 := by norm_num
  rw [hc]
  generalize (2305843 / 2305843009213693952 : ℝ) = f at hf
  induction s using EReal.rec with
  | bot => simp at hs
  | top =>
    have h1 : Ideal.rsqrt ⊤ = 0 := rfl
    have h2 : Ideal.sqrt ⊤ = ⊤ := rfl
    rw [max_eq_left le_top, h1, h2, max_eq_left le_top]
    simp [Ideal.div]
  | coe s =>
    have hs' : 0 ≤ s := by exact_mod_cast hs
    have h2 : Ideal.sqrt (s : EReal) = ((Real.sqrt s : ℝ) : EReal) := by
      show (if s < 0 then (⊥ : EReal) else _) = _
      rw [if_neg (not_lt.2 hs')]
    have hm : ∀ a b : ℝ, max (a : EReal) b = ((max a b : ℝ) : EReal) := fun a b =>
      (EReal.coe_strictMono.monotone.map_max).symm
    have hp : 0 < max s (f ^ 2) := lt_max_of_lt_right (by positivity)
    have hq : max (Real.sqrt s) f ≠ 0 := (lt_max_of_lt_right hf).ne'
    have hroot : Real.sqrt (max s (f ^ 2)) = max (Real.sqrt s) f := by
      have hmono : Monotone Real.sqrt := fun _ _ h => Real.sqrt_le_sqrt h
      rw [hmono.map_max, Real.sqrt_sq hf.le]
    have h3 : Ideal.rsqrt ((max s (f ^ 2) : ℝ) : EReal) = (((max (Real.sqrt s) f)⁻¹ : ℝ) : EReal) := by
      show (if max s (f ^ 2) < 0 then (⊥ : EReal) else if max s (f ^ 2) = 0 then ⊤ else _) = _
      rw [if_neg (not_lt.2 hp.le), if_neg hp.ne', hroot]
    rw [h2, hm, hm, h3, Ideal.div_coe hq, one_div]

end Cert.Router

end
-- ==== Proof.Block.lean ====
/-
  ONE BLOCK OF TOKENS. The kernel's values over a block of 2048 tokens, read at a token and a neuron.
-/
module

public import proofs.«01_k».proof.Proof.Norm
public import proofs.«01_k».proof.Proof.Gen.KernelIdeal.Skeleton
public import Idealize.ShloMosaic.Lib.Pointwise

@[expose] public section

set_option maxRecDepth 16384

noncomputable section

namespace Cert.Router

open Idealize.ShloMosaic Cert.KernelIdeal Cert.KernelIdeal.Gen

/-- A square is not negative. -/
theorem square_nonneg (x : EReal) : 0 ≤ x * x := by
  induction x using EReal.rec with
  | bot => simp
  | top => simp
  | coe r => exact_mod_cast mul_self_nonneg r

/-- The kernel's floor is the square of the reference's. -/
theorem floor_sq_named : Named.named (F := Ideal) (φ := .f32) κ "floor_sq" 0x179ABE15#32
    = ((5316911940649 / 5316911983139663491615228241121378304 : ℝ) : EReal) :=
  IdealRules.named_const.ideal_named_scalar κ "floor_sq" (φ := .f32) _ _ rfl

/-- The kernel's scores of a block, at a token and a neuron. -/
theorem k0_pay11_at (v5 : Vec Ideal S1x2048x2048 .f32) (v7 : Vec Ideal S64x2048 .f32) (v9 : Vec Ideal S1x64 .f32)
    (v13 : Vec Ideal S192x64 .f32) (r : Fin 2048) (n : Fin 192) :
    k0_pay11 v5 v7 v9 v13 (ix2 r n)
      = score (fun k => v5 (ix3 (0 : Fin 1) r k)) (fun d k => v7 (ix2 d k)) (fun d => v9 (ix2 (0 : Fin 1) d))
          (fun n d => v13 (ix2 n d)) n := by
  pointwise [k0_pay11]
  unfold score hidden direction
  refine Finset.sum_congr rfl fun d _ => ?_
  rw [← inverse_norm _ _ (Finset.sum_nonneg fun k _ => square_nonneg _),
    floor_sq_named]

/-- The first group's softmax, at a token and a neuron. -/
theorem k0_pay12_at (v5 : Vec Ideal S1x2048x2048 .f32) (v7 : Vec Ideal S64x2048 .f32) (v9 : Vec Ideal S1x64 .f32)
    (v13 : Vec Ideal S192x64 .f32) (r : Fin 2048) (n : Fin 64) :
    k0_pay12 v5 v7 v9 v13 (ix2 r n) = softmax (fun k => k0_pay11 v5 v7 v9 v13 (ix2 r (neuron 0 k))) n := by
  have hn : ∀ k : Fin 64, neuron 0 k = ⟨k.val, by omega⟩ := fun k => Fin.ext (by simp [neuron])
  unfold k0_pay12
  generalize k0_pay11 v5 v7 v9 v13 = l
  pointwise
  unfold softmax peak
  simp only [hn]

/-- The second group's scores below their greatest, at a token and a neuron. -/
theorem k0_pay13_at (v5 : Vec Ideal S1x2048x2048 .f32) (v7 : Vec Ideal S64x2048 .f32) (v9 : Vec Ideal S1x64 .f32)
    (v13 : Vec Ideal S192x64 .f32) (r : Fin 2048) (n : Fin 64) :
    k0_pay13 v5 v7 v9 v13 (ix2 r n)
      = k0_pay11 v5 v7 v9 v13 (ix2 r (neuron 1 n)) - peak (fun k => k0_pay11 v5 v7 v9 v13 (ix2 r (neuron 1 k))) := by
  have hn : ∀ k : Fin 64, neuron 1 k = ⟨64 + k.val, by omega⟩ := fun k => Fin.ext (by simp [neuron])
  unfold k0_pay13
  generalize k0_pay11 v5 v7 v9 v13 = l
  pointwise
  unfold peak
  simp only [hn]

/-- One where row `b` is the sequence of the grid point, zero elsewhere. -/
def here (a : BitVec 32) (b : Fin 4) : EReal := if BitVec.ofNat 32 b.val = a then 1 else 0

/-- The comparison of a row's number with the point's, as a one or a zero. -/
theorem here_eq (a : BitVec 32) (b : Fin 4) :
    FloatOps.sitofp (F := Ideal) .f32 (BitVec.setWidth 32 (IntOp.cmpi .eq (BitVec.ofNat 32 b.val) a)) = here a b := by
  unfold here
  show (((BitVec.setWidth 32 (bif BitVec.ofNat 32 b.val == a then 1#1 else 0#1)).toInt : ℝ) : EReal) = _
  by_cases h : BitVec.ofNat 32 b.val = a
  · rw [if_pos h, beq_iff_eq.2 h]
    norm_num
  · rw [if_neg h, beq_eq_false_iff_ne.2 h]
    norm_num

/-- What a grid point adds to the accumulator, at a row and a neuron. -/
theorem k0_pay1_at (arg0 : BitVec 32) (v5 : Vec Ideal S1x2048x2048 .f32) (v7 : Vec Ideal S64x2048 .f32)
    (v9 : Vec Ideal S1x64 .f32) (v13 : Vec Ideal S192x64 .f32) (v54 : Vec Ideal S1x1x1x2048 .f32)
    (v62 : Vec Ideal S4x192 .f32) (b : Fin 4) (g : Fin 3) (n : Fin 64) :
    k0_pay1 arg0 (k0_pay11 v5 v7 v9 v13) (k0_pay12 v5 v7 v9 v13) (k0_pay13 v5 v7 v9 v13) v54 v62 (ix2 b (neuron g n))
      = v62 (ix2 b (neuron g n)) + here arg0 b * ∑ r : Fin 2048, v54 (ix4 (0 : Fin 1) (0 : Fin 1) (0 : Fin 1) r)
          * preference (fun k => v5 (ix3 (0 : Fin 1) r k)) (fun d k => v7 (ix2 d k)) (fun d => v9 (ix2 (0 : Fin 1) d))
              (fun n d => v13 (ix2 n d)) g n := by
  have h12 := k0_pay12_at v5 v7 v9 v13
  have h13 := k0_pay13_at v5 v7 v9 v13
  have h11 := k0_pay11_at v5 v7 v9 v13
  generalize k0_pay11 v5 v7 v9 v13 = v22 at *
  generalize k0_pay12 v5 v7 v9 v13 = v32 at *
  generalize k0_pay13 v5 v7 v9 v13 = v37 at *
  have hm : (neuron g n).val = 64 * g.val + n.val := rfl
  have h2 : ∀ k : Fin 64, (⟨128 + k.val, by omega⟩ : Fin 192) = neuron 2 k := fun k => Fin.ext (by simp [neuron])
  generalize hq : neuron g n = q at hm ⊢
  pointwise [k0_pay1]
  rw [here_eq]
  refine Ideal.add_congr rfl (Ideal.mul_congr rfl (Finset.sum_congr rfl fun r _ => Ideal.mul_congr rfl ?_))
  unfold preference
  simp only [← h11 r]
  fin_cases g
  · have hlt : q.val < 64 := by simp at hm; omega
    have hi : (⟨q.val, hlt⟩ : Fin 64) = n := Fin.ext (by simp at hm; exact hm)
    rw [dif_pos hlt, hi, h12]
    rfl
  · have hge : ¬ q.val < 64 := by simp at hm; omega
    have hlt : q.val - 64 < 64 := by simp at hm; omega
    have hi : (⟨q.val - 64, hlt⟩ : Fin 64) = n := Fin.ext (by simp at hm; simp; omega)
    rw [dif_neg hge, dif_pos hlt, hi]
    simp only [h13]
    rfl
  · have hge : ¬ q.val < 64 := by simp at hm; omega
    have hge2 : ¬ q.val - 64 < 64 := by simp at hm; omega
    have hi : (⟨128 + (q.val - 64 - 64), by omega⟩ : Fin 192) = neuron 2 n := Fin.ext (by simp [neuron] at hm ⊢; omega)
    rw [dif_neg hge, dif_neg hge2, hi]
    simp only [h2]
    rfl

end Cert.Router

end
-- ==== Proof.Finish.lean ====
/-
  THE CLOSING VALUES. What the kernel stores at its last grid point, read at a row and a neuron of each group: the best
  entries of the accumulated weights over their sum.
-/
module

public import proofs.«01_k».proof.Proof.Spec
public import proofs.«01_k».proof.Proof.Gen.KernelIdeal.Skeleton
public import Idealize.ShloMosaic.Lib.Pointwise

@[expose] public section

set_option maxRecDepth 16384

noncomputable section

namespace Cert.Router

open Idealize.ShloMosaic Cert.KernelIdeal Cert.KernelIdeal.Gen

/-- What entry `j` adds to the count of the entries before entry `n`, as the kernel writes it. -/
def tally (w : Fin 64 → EReal) (n j : Fin 64) : EReal :=
  FloatOps.sitofp (F := Ideal) .f32 (BitVec.setWidth 32 (BitVec.ofBool (decide (w n < w j))))
    + FloatOps.sitofp (F := Ideal) .f32 (BitVec.setWidth 32 (IntOp.andi (BitVec.ofBool (decide (w j = w n)))
        (IntOp.cmpi .slt (BitVec.ofNat 32 j.val) (BitVec.ofNat 32 n.val))))

/-- A bit widened and converted is zero or one. -/
theorem sitofp_bit (c : Bool) : FloatOps.sitofp (F := Ideal) .f32 (BitVec.setWidth 32 (BitVec.ofBool c))
    = if c = true then 1 else 0 := by
  show (((BitVec.setWidth 32 (BitVec.ofBool c)).toInt : ℝ) : EReal) = _
  have h0 : (BitVec.setWidth 32 (BitVec.ofBool false)).toInt = 0 := by decide
  have h1 : (BitVec.setWidth 32 (BitVec.ofBool true)).toInt = 1 := by decide
  cases c
  · rw [h0]; simp
  · rw [h1]; simp

/-- Comparing two positions as words. -/
theorem slt_positions (j n : Fin 64) :
    IntOp.cmpi .slt (BitVec.ofNat 32 j.val) (BitVec.ofNat 32 n.val) = BitVec.ofBool (decide (j < n)) := by
  have hword : ∀ q : ℕ, q < 64 → (BitVec.ofNat 32 q).toInt = (q : Int) := by decide
  show (BitVec.ofBool (decide ((BitVec.ofNat 32 j.val).toInt < (BitVec.ofNat 32 n.val).toInt))) = _
  rw [hword _ j.isLt, hword _ n.isLt]
  congr 1
  exact decide_eq_decide.2 (by rw [Nat.cast_lt, Fin.lt_def])

/-- What one comparison contributes to a place: one if `j` comes before `n`, else zero. -/
theorem tally_eq (w : Fin 64 → EReal) (n j : Fin 64) :
    tally w n j = if w n < w j ∨ (w j = w n ∧ j < n) then 1 else 0 := by
  have hand : ∀ a c : Bool, IntOp.andi (BitVec.ofBool a) (BitVec.ofBool c) = BitVec.ofBool (a && c) := by decide
  unfold tally
  rw [slt_positions, hand, sitofp_bit, sitofp_bit]
  by_cases h : w n < w j
  · have hne : w j ≠ w n := h.ne'
    simp [h, hne]
  · simp [h]

/-- The count of the entries before entry `n`. -/
theorem sum_tally (w : Fin 64 → EReal) (n : Fin 64) : ∑ j, tally w n j = ((place w n : ℝ) : EReal) := by
  simp only [tally_eq]
  rw [← Finset.sum_filter, Finset.sum_const, nsmul_one, EReal.coe_natCast]
  rfl

/-- An entry kept where its count is below a bound. -/
theorem keep_eq (w : Fin 64 → EReal) (n : Fin 64) (k : ℕ) (c : EReal) (hc : c = ((k : ℝ) : EReal)) :
    (if ∑ j, tally w n j < c then w n else 0) = best k w n := by
  rw [sum_tally, hc]
  unfold best
  simp only [EReal.coe_lt_coe_iff, Nat.cast_lt]

/-- The float words of eight, four and six. -/
theorem eight_word : Ideal.ofBits .f32 0x41000000#32 = (((8 : ℕ) : ℝ) : EReal) := by
  simp [Ideal.ofBits, Ideal.ieee, -EReal.coe_mul]
  norm_num

theorem four_word : Ideal.ofBits .f32 0x40800000#32 = (((4 : ℕ) : ℝ) : EReal) := by
  simp [Ideal.ofBits, Ideal.ieee, -EReal.coe_mul]
  norm_num

theorem six_word : Ideal.ofBits .f32 0x40C00000#32 = (((6 : ℕ) : ℝ) : EReal) := by
  simp [Ideal.ofBits, Ideal.ieee, -EReal.coe_mul]
  norm_num

/-- The kernel's closing value over one row. -/
theorem close_row (w : Fin 64 → EReal) (n : Fin 64) (k : ℕ) (c : EReal) (hc : c = ((k : ℝ) : EReal)) :
    Ideal.div (if ∑ j, tally w n j < c then w n else 0)
        ((∑ m, if ∑ j, tally w m j < c then w m else 0) + Ideal.ofBits .f32 0x322BCC77#32)
      = routed k w n := by
  unfold routed
  simp only [keep_eq w _ k c hc]

/-- The first group's closing value. -/
theorem k0_pay2_at (v75 : Vec Ideal S4x192 .f32) (b : Fin 4) (n : Fin 64) :
    k0_pay2 v75 (ix2 b n) = routed 8 (fun k => v75 (ix2 b (neuron 0 k))) n := by
  have hn : ∀ k : Fin 64, neuron 0 k = ⟨k.val, by omega⟩ := fun k => Fin.ext (by simp [neuron])
  rw [← close_row _ _ 8 _ eight_word]
  pointwise [k0_pay2]
  simp only [tally, hn]

/-- The second group's closing value. -/
theorem k0_pay8_at (v75 : Vec Ideal S4x192 .f32) (b : Fin 4) (n : Fin 64) :
    k0_pay8 (k0_pay3 v75) (k0_pay6 v75) (k0_pay7 v75) (ix2 b n) = routed 4 (fun k => v75 (ix2 b (neuron 1 k))) n := by
  have hn : ∀ k : Fin 64, neuron 1 k = ⟨64 + k.val, by omega⟩ := fun k => Fin.ext (by simp [neuron])
  rw [← close_row _ _ 4 _ four_word]
  pointwise [k0_pay8, k0_pay6, k0_pay7, k0_pay5, k0_pay4, k0_pay3]
  simp only [tally, hn]

/-- The third group's closing value. -/
theorem k0_pay9_at (v75 : Vec Ideal S4x192 .f32) (b : Fin 4) (n : Fin 64) :
    k0_pay9 v75 (ix2 b n) = routed 6 (fun k => v75 (ix2 b (neuron 2 k))) n := by
  have hn : ∀ k : Fin 64, neuron 2 k = ⟨128 + k.val, by omega⟩ := fun k => Fin.ext (by simp [neuron])
  rw [← close_row _ _ 6 _ six_word]
  pointwise [k0_pay9]
  simp only [tally, hn]

end Cert.Router

end
-- ==== Proof.Body.lean ====
/-
  ONE GRID POINT. What the kernel's body leaves in its accumulator and in its four output blocks, as values of the blocks
  it was given: the accumulator gains the point's contribution, and at the last point the outputs are read from it.
-/
module

public import proofs.«01_k».proof.Proof.Gen.KernelIdeal.Frame
public import Idealize.ShloMosaic.Lib.Pipeline.Value
public import Idealize.ShloMosaic.Lib.Tactic

@[expose] public section

set_option maxRecDepth 16384

noncomputable section

namespace Cert.Router

open Idealize.ShloMosaic Idealize.ShloMosaic.TcCoe Idealize.SL.Sem
open Cert.KernelIdeal Cert.KernelIdeal.Gen

/-- Offsets that are all zero, at two, three and four dimensions. -/
theorem zero2 : (![0, 0] : Fin 2 → Nat) = fun _ => 0 := funext fun a => by fin_cases a <;> rfl

theorem zero3 : (![0, 0, 0] : Fin 3 → Nat) = fun _ => 0 := funext fun a => by fin_cases a <;> rfl

theorem zero4 : (![0, 0, 0, 0] : Fin 4 → Nat) = fun _ => 0 := funext fun a => by fin_cases a <;> rfl

variable {F : FTy → Type} [FloatOps F] [Named F]
variable (c : Dev nD) (i : grid0.Coords)
variable (a2 : Memref sig .tc .vmem S1x2048x2048 .f32) (h2 : a2.IsWhole) (a3 : Memref sig .tc .vmem S1x1x1x2048 .f32)
  (h3 : a3.IsWhole) (a4 : Memref sig .tc .vmem S64x2048 .f32) (h4 : a4.IsWhole) (a5 : Memref sig .tc .vmem S1x64 .f32)
  (h5 : a5.IsWhole) (a6 : Memref sig .tc .vmem S192x64 .f32) (h6 : a6.IsWhole) (a7 : Memref sig .tc .vmem S4x64 .f32)
  (h7 : a7.IsWhole) (a8 : Memref sig .tc .vmem S4x64 .f32) (h8 : a8.IsWhole) (a9 : Memref sig .tc .vmem S4x64 .f32)
  (h9 : a9.IsWhole) (a10 : Memref sig .tc .vmem S4x64 .f32) (h10 : a10.IsWhole)
  (a11 : Memref sig .tc .vmem S4x192 .f32) (h11 : a11.IsWhole)
variable (x0 : Vec F S1x2048x2048 .f32) (x1 : Vec F S1x1x1x2048 .f32) (x2 : Vec F S64x2048 .f32) (x3 : Vec F S1x64 .f32)
  (x4 : Vec F S192x64 .f32) (acc : Vec F S4x192 .f32)

/-- The accumulator after a grid point of sequence `b`, from the accumulator before it. -/
def step (b : ℕ) : Vec F S4x192 .f32 :=
  k0_pay1 (BitVec.ofNat 32 b) (k0_pay11 x0 x2 x3 x4) (k0_pay12 x0 x2 x3 x4) (k0_pay13 x0 x2 x3 x4) x1 acc

/-- Reading a whole buffer through zero offsets gives what it holds. -/
theorem whole_load {S : Shape} {φ : EltTy} (a : Memref sig .tc .vmem S φ) (h : a.IsWhole) (x : Vec F S φ)
    {z : Fin S.rank → ℕ} (hz : z = fun _ => 0) (inb) :
    View.readAt (Elt F) a.view (Rect.unit (s := S) z S.size inb).toLoadRect (h.unread x) = x := by
  rw [View.readAt_eq_ld, h.read_unread, View.ld_unit_zero (S := S) hz]

/-- A point in the middle. -/
theorem sout0_B_eq (hc0 : ¬cond0_0 i) (hc1 : ¬cond0_1 i) :
    sout0_B_0 c i a2 h2 a3 h3 a4 h4 a5 h5 a6 h6 a7 h7 a8 h8 a9 h9 a10 h10 a11 h11 hc0 hc1 x0 x1 x2 x3 x4 acc
      = step x0 x1 x2 x3 x4 acc (i 0).val := by
  unfold sout0_B_0
  rw [View.read_writes_eq_canon _ _ _ (scover0_B_0 c i a2 h2 a3 h3 a4 h4 a5 h5 a6 h6 a7 h7 a8 h8 a9 h9 a10 h10 a11 h11
    hc0 hc1 x0 x1 x2 x3 x4 acc)]
  unfold kernelRun0_B
  dsimp only
  sl_unfold_words
  rw [View.canon_unit_zero zero2]
  simp only [whole_load a2 h2 x0 zero3, whole_load a3 h3 x1 zero4, whole_load a4 h4 x2 zero2, whole_load a5 h5 x3 zero2,
    whole_load a6 h6 x4 zero2, whole_load a11 h11 acc zero2]
  rfl

/-- The first point, whose accumulator starts at zero. -/
theorem sout0_A_eq (hc0 : cond0_0 i) (hc1 : ¬cond0_1 i) :
    sout0_A_0 c i a2 h2 a3 h3 a4 h4 a5 h5 a6 h6 a7 h7 a8 h8 a9 h9 a10 h10 a11 h11 hc0 hc1 x0 x1 x2 x3 x4
      = step x0 x1 x2 x3 x4 k0_pay10 (i 0).val := by
  unfold sout0_A_0
  rw [View.read_writes_eq_canon _ _ _ (scover0_A_0 c i a2 h2 a3 h3 a4 h4 a5 h5 a6 h6 a7 h7 a8 h8 a9 h9 a10 h10 a11 h11
    hc0 hc1 x0 x1 x2 x3 x4)]
  unfold kernelRun0_A
  dsimp only
  sl_unfold_words
  rw [View.canon_cons_unit_zero (S := S4x192) zero2, View.readCov_unit_zero (S := S4x192) _ zero2]
  simp only [whole_load a2 h2 x0 zero3, whole_load a3 h3 x1 zero4, whole_load a4 h4 x2 zero2, whole_load a5 h5 x3 zero2,
    whole_load a6 h6 x4 zero2]
  rfl

/-- The second group's closing value, of the accumulator. -/
def second (v : Vec F S4x192 .f32) : Vec F S4x64 .f32 := k0_pay8 (k0_pay3 v) (k0_pay6 v) (k0_pay7 v)

variable (hc0 : ¬cond0_0 i) (hc1 : cond0_1 i)

/-- The first group's output at the last point. -/
theorem out0_C_5_eq :
    out0_C_5 c i a2 h2 a3 h3 a4 h4 a5 h5 a6 h6 a7 h7 a8 h8 a9 h9 a10 h10 a11 h11 hc0 hc1 x0 x1 x2 x3 x4 acc
      = k0_pay2 (step x0 x1 x2 x3 x4 acc (i 0).val) := by
  unfold out0_C_5
  rw [View.read_writes_eq_canon _ _ _ (cover0_C_5 c i a2 h2 a3 h3 a4 h4 a5 h5 a6 h6 a7 h7 a8 h8 a9 h9 a10 h10 a11 h11
    hc0 hc1 x0 x1 x2 x3 x4 acc)]
  unfold kernelRun0_C
  dsimp only
  sl_unfold_words
  rw [View.canon_unit_zero zero2]
  simp only [View.readCov_unit_zero (S := S4x192) _ zero2, whole_load a2 h2 x0 zero3, whole_load a3 h3 x1 zero4,
    whole_load a4 h4 x2 zero2, whole_load a5 h5 x3 zero2, whole_load a6 h6 x4 zero2, whole_load a11 h11 acc zero2]
  rfl

/-- The second group's output, of the first of its two results. -/
theorem out0_C_6_eq :
    out0_C_6 c i a2 h2 a3 h3 a4 h4 a5 h5 a6 h6 a7 h7 a8 h8 a9 h9 a10 h10 a11 h11 hc0 hc1 x0 x1 x2 x3 x4 acc
      = second (step x0 x1 x2 x3 x4 acc (i 0).val) := by
  unfold out0_C_6
  rw [View.read_writes_eq_canon _ _ _ (cover0_C_6 c i a2 h2 a3 h3 a4 h4 a5 h5 a6 h6 a7 h7 a8 h8 a9 h9 a10 h10 a11 h11
    hc0 hc1 x0 x1 x2 x3 x4 acc)]
  unfold kernelRun0_C
  dsimp only
  sl_unfold_words
  rw [View.canon_unit_zero zero2]
  simp only [View.readCov_unit_zero (S := S4x192) _ zero2, whole_load a2 h2 x0 zero3, whole_load a3 h3 x1 zero4,
    whole_load a4 h4 x2 zero2, whole_load a5 h5 x3 zero2, whole_load a6 h6 x4 zero2, whole_load a11 h11 acc zero2]
  rfl

/-- The second of the two: the same value. -/
theorem out0_C_7_eq :
    out0_C_7 c i a2 h2 a3 h3 a4 h4 a5 h5 a6 h6 a7 h7 a8 h8 a9 h9 a10 h10 a11 h11 hc0 hc1 x0 x1 x2 x3 x4 acc
      = second (step x0 x1 x2 x3 x4 acc (i 0).val) := by
  unfold out0_C_7
  rw [View.read_writes_eq_canon _ _ _ (cover0_C_7 c i a2 h2 a3 h3 a4 h4 a5 h5 a6 h6 a7 h7 a8 h8 a9 h9 a10 h10 a11 h11
    hc0 hc1 x0 x1 x2 x3 x4 acc)]
  unfold kernelRun0_C
  dsimp only
  sl_unfold_words
  rw [View.canon_unit_zero zero2]
  simp only [View.readCov_unit_zero (S := S4x192) _ zero2, whole_load a2 h2 x0 zero3, whole_load a3 h3 x1 zero4,
    whole_load a4 h4 x2 zero2, whole_load a5 h5 x3 zero2, whole_load a6 h6 x4 zero2, whole_load a11 h11 acc zero2]
  rfl

/-- The third group's output. -/
theorem out0_C_8_eq :
    out0_C_8 c i a2 h2 a3 h3 a4 h4 a5 h5 a6 h6 a7 h7 a8 h8 a9 h9 a10 h10 a11 h11 hc0 hc1 x0 x1 x2 x3 x4 acc
      = k0_pay9 (step x0 x1 x2 x3 x4 acc (i 0).val) := by
  unfold out0_C_8
  rw [View.read_writes_eq_canon _ _ _ (cover0_C_8 c i a2 h2 a3 h3 a4 h4 a5 h5 a6 h6 a7 h7 a8 h8 a9 h9 a10 h10 a11 h11
    hc0 hc1 x0 x1 x2 x3 x4 acc)]
  unfold kernelRun0_C
  dsimp only
  sl_unfold_words
  rw [View.canon_unit_zero zero2]
  simp only [View.readCov_unit_zero (S := S4x192) _ zero2, whole_load a2 h2 x0 zero3, whole_load a3 h3 x1 zero4,
    whole_load a4 h4 x2 zero2, whole_load a5 h5 x3 zero2, whole_load a6 h6 x4 zero2, whole_load a11 h11 acc zero2]
  rfl

end Cert.Router

end
-- ==== Proof.Blocks.lean ====
/-
  THE BLOCKS. What each input window holds at a grid point, as entries of the arguments: point `t` is half `t % 2` of
  sequence `t / 2`.
-/
module

public import proofs.«01_k».proof.Proof.Gen.KernelIdeal.Frame
public import Idealize.ShloMosaic.Lib.Pipeline.ValueKit.Point

@[expose] public section

set_option maxRecDepth 16384

noncomputable section

namespace Cert.Router

open Idealize.ShloMosaic Idealize.ShloMosaic.TcCoe Idealize.SL.Sem
open Cert.KernelIdeal Cert.KernelIdeal.Gen

variable (m : (ℓ : Loc nD τ sig) → Buf (Elt Ideal) ℓ) (c : Dev nD)

/-- The windows' block indices at a grid point. -/
theorem idx : ∀ t : Fin cfg0.N,
    (win0_0.index t (0 : Fin 3) = t.val / 2 ∧ win0_0.index t (1 : Fin 3) = t.val % 2 ∧ win0_0.index t (2 : Fin 3) = 0)
    ∧ (win0_1.index t (0 : Fin 4) = t.val / 2 ∧ win0_1.index t (1 : Fin 4) = t.val % 2
      ∧ win0_1.index t (2 : Fin 4) = 0 ∧ win0_1.index t (3 : Fin 4) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0) :=
  (by decide +kernel : ∀ t : Fin grid0.N, _)

/-- There are eight grid points. -/
theorem lt_eight (t : Fin cfg0.N) : t.val < 8 := lt_of_lt_of_eq t.isLt N_0

/-- The sequence a grid point works on. -/
theorem coord (t : Fin cfg0.N) : (grid0.coords t 0).val = t.val / 2 :=
  (by decide +kernel : ∀ t : Fin grid0.N, (grid0.coords t 0).val = t.val / 2) t

/-- The sequence and the token that a grid point reads at row `r`. -/
def seqOf (t : Fin cfg0.N) : Fin 4 := ⟨t.val / 2, by have := lt_eight t; omega⟩

/-- The token that row `r` of the block of point `t` holds. -/
def tokOf (t : Fin cfg0.N) (r : Fin 2048) : Fin 4096 := ⟨t.val % 2 * 2048 + r.val, by omega⟩

/-- A point's block of tokens, read from the argument. -/
theorem tokens_at (t : Fin cfg0.N) (r k : Fin 2048) :
    (iblk m c 0 t : Vec Ideal S1x2048x2048 .f32) (ix3 (0 : Fin 1) r k)
      = m ((c : Thread nD τ).loc main_arg0) (ix3 (seqOf t) (tokOf t r) k) := by
  blk_ext! [iblk, V, idx t, seqOf, tokOf]

/-- A point's block of importances, read from the argument. -/
theorem importance_at (t : Fin cfg0.N) (r : Fin 2048) :
    (iblk m c 1 t : Vec Ideal S1x1x1x2048 .f32) (ix4 (0 : Fin 1) (0 : Fin 1) (0 : Fin 1) r)
      = m ((c : Thread nD τ).loc main_arg1) (ix2 (seqOf t) (tokOf t r)) := by
  blk_ext! [iblk, V, idx t, seqOf, tokOf]

/-- The projection's one block is the argument. -/
theorem proj_at (t : Fin cfg0.N) (d : Fin 64) (k : Fin 2048) :
    (iblk m c 2 t : Vec Ideal S64x2048 .f32) (ix2 d k) = m ((c : Thread nD τ).loc main_arg2) (ix2 d k) := by
  blk_ext! [iblk, V, idx t]

/-- The bias's one block is the argument. -/
theorem bias_at (t : Fin cfg0.N) (d : Fin 64) :
    (iblk m c 3 t : Vec Ideal S1x64 .f32) (ix2 (0 : Fin 1) d) = m ((c : Thread nD τ).loc main_arg3) (ix1 d) := by
  blk_ext! [iblk, V, idx t]

/-- The embeddings' one block is the argument. -/
theorem emb_at (t : Fin cfg0.N) (n : Fin 192) (d : Fin 64) :
    (iblk m c 4 t : Vec Ideal S192x64 .f32) (ix2 n d) = m ((c : Thread nD τ).loc main_arg4) (ix2 n d) := by
  blk_ext! [iblk, V, idx t]

end Cert.Router

end
-- ==== Proof.Accumulate.lean ====
/-
  THE ACCUMULATOR. Each grid point adds, in its own sequence's row, the importance-weighted preferences of its 2048 tokens
  and nothing in the other rows, so that after the eighth point a row holds the weights over all 4096 tokens; the four
  results are the closing values of that.
-/
module

public import proofs.«01_k».proof.Proof.Weights
public import proofs.«01_k».proof.Proof.Block
public import proofs.«01_k».proof.Proof.Finish
public import proofs.«01_k».proof.Proof.Body
public import proofs.«01_k».proof.Proof.Blocks
public import proofs.«01_k».proof.Proof.Gen.KernelIdeal.Value

@[expose] public section

set_option maxRecDepth 16384

noncomputable section

namespace Cert.Router

open Idealize.ShloMosaic Idealize.ShloMosaic.TcCoe Idealize.SL.Sem
open Cert.KernelIdeal Cert.KernelIdeal.Gen Cert.KernelIdeal.Value

section Args

variable (x0 : (⟨3, ![4, 4096, 2048]⟩ : Shape).Idx → EReal) (x1 : (⟨2, ![4, 4096]⟩ : Shape).Idx → EReal)
  (x2 : (⟨2, ![64, 2048]⟩ : Shape).Idx → EReal) (x3 : (⟨1, ![64]⟩ : Shape).Idx → EReal)
  (x4 : (⟨2, ![192, 64]⟩ : Shape).Idx → EReal)

/-- What point `t` adds to row `b`. -/
def gain (b : Fin 4) (g : Fin 3) (n : Fin 64) (t : ℕ) : EReal :=
  if t / 2 = b.val then
    ∑ r : Fin 2048, x1 (ix2 b ⟨t % 2 * 2048 + r.val, by omega⟩) * prefs x0 x2 x3 x4 b ⟨t % 2 * 2048 + r.val, by omega⟩ g n
  else 0

/-- The eight points add up to the weights. -/
theorem sum_gain (b : Fin 4) (g : Fin 3) (n : Fin 64) :
    ∑ t ∈ Finset.range 8, gain x0 x1 x2 x3 x4 b g n t = weights x0 x1 x2 x3 x4 b g n := by
  unfold weights
  rw [Fin.sum_univ_tiles 2 2048 rfl, Fin.sum_univ_two]
  simp only [Finset.sum_range_succ, Finset.sum_range_zero, zero_add]
  unfold gain
  fin_cases b <;> simp

end Args

variable (m : (ℓ : Loc nD τ sig) → Buf (Elt Ideal) ℓ) (c : Dev nD)

/-- The weights, from the arguments as launched. -/
abbrev W (b : Fin 4) (g : Fin 3) (n : Fin 64) : EReal :=
  weights (m ((c : Thread nD τ).loc main_arg0)) (m ((c : Thread nD τ).loc main_arg1))
    (m ((c : Thread nD τ).loc main_arg2)) (m ((c : Thread nD τ).loc main_arg3)) (m ((c : Thread nD τ).loc main_arg4)) b g n

/-- What point `t` adds, from the arguments as launched. -/
abbrev G (b : Fin 4) (g : Fin 3) (n : Fin 64) (t : ℕ) : EReal :=
  gain (m ((c : Thread nD τ).loc main_arg0)) (m ((c : Thread nD τ).loc main_arg1))
    (m ((c : Thread nD τ).loc main_arg2)) (m ((c : Thread nD τ).loc main_arg3)) (m ((c : Thread nD τ).loc main_arg4)) b g n t

/-- The accumulator after point `t`, from what it held before. -/
abbrev stepAt (t : Fin cfg0.N) (acc : Vec Ideal S4x192 .f32) : Vec Ideal S4x192 .f32 :=
  step (iblk m c 0 t) (iblk m c 1 t) (iblk m c 2 t) (iblk m c 3 t) (iblk m c 4 t) acc (grid0.coords t 0).val

/-- The factor of a row at point `t`: one on the point's own sequence, zero on the others. -/
theorem here_point (t : Fin cfg0.N) (b : Fin 4) :
    here (BitVec.ofNat 32 (grid0.coords t 0).val) b = if t.val / 2 = b.val then 1 else 0 := by
  have h8 := lt_eight t
  have hw : ∀ p q : Fin 4, (BitVec.ofNat 32 p.val = BitVec.ofNat 32 q.val) ↔ p = q := by decide
  unfold here
  rw [coord]
  refine if_congr ((hw b (seqOf t)).trans ?_) rfl rfl
  rw [Fin.ext_iff, eq_comm]
  rfl

/-- One point adds its gain to its own row and leaves the other rows. -/
theorem step_at (t : Fin cfg0.N) (acc : Vec Ideal S4x192 .f32) (b : Fin 4) (g : Fin 3) (n : Fin 64) :
    stepAt m c t acc (ix2 b (neuron g n)) = acc (ix2 b (neuron g n)) + G m c b g n t.val := by
  unfold stepAt step
  rw [k0_pay1_at, here_point]
  congr 1
  unfold G gain
  by_cases h : t.val / 2 = b.val
  · have hb : seqOf t = b := Fin.ext h
    rw [if_pos h, if_pos h, one_mul]
    refine Finset.sum_congr rfl fun r _ => ?_
    rw [importance_at, hb]
    simp only [tokens_at, proj_at, bias_at, emb_at, hb]
    rfl
  · rw [if_neg h, if_neg h, zero_mul]

/-- The accumulator after point `n`, before the last. -/
theorem scratch_at (b : Fin 4) (g : Fin 3) (q : Fin 64) : ∀ (n : ℕ) (h : n < cfg0.N), n < 7 →
    (outsAt0 m c n h).2.2.2.2 (ix2 b (neuron g q)) = ∑ t ∈ Finset.range (n + 1), G m c b g q t
  | 0, h, _ => by
    rw [outsAt0_zero, stAt0_A m c ⟨0, h⟩ _ rfl (by dsimp only; omega)]
    dsimp only
    rw [sout0_A_eq, Finset.sum_range_one]
    have hz : k0_pay10 (F := Ideal) (ix2 b (neuron g q)) = 0 := by pointwise [k0_pay10]
    refine (step_at m c ⟨0, h⟩ _ b g q).trans ?_
    rw [hz, zero_add]
  | n + 1, h, h7 => by
    rw [outsAt0_succ, stAt0_B m c ⟨n + 1, h⟩ _ (by dsimp only; omega) (by dsimp only; omega)]
    dsimp only
    rw [sout0_B_eq, Finset.sum_range_succ, ← scratch_at b g q n (Nat.lt_of_succ_lt h) (by omega)]
    exact step_at m c ⟨n + 1, h⟩ _ b g q

/-- The accumulator after the last point. -/
abbrev total : Vec Ideal S4x192 .f32 :=
  stepAt m c ⟨7, by rw [show cfg0.N = 8 from N_0]; decide⟩
    (outsAt0 m c 6 (by rw [show cfg0.N = 8 from N_0]; decide)).2.2.2.2

/-- The accumulator after the last point: row `b` holds the weights of sequence `b`. -/
theorem total_at (b : Fin 4) (g : Fin 3) (q : Fin 64) : total m c (ix2 b (neuron g q)) = W m c b g q := by
  unfold total
  rw [step_at, scratch_at _ _ _ _ _ _ _ (by decide), ← Finset.sum_range_succ]
  exact sum_gain _ _ _ _ _ b g q

/-- What the last point leaves in the four outputs. -/
theorem last_point (h : 7 < cfg0.N) :
    (outsAt0 m c 7 h).1 = k0_pay2 (total m c) ∧ (outsAt0 m c 7 h).2.1 = second (total m c)
      ∧ (outsAt0 m c 7 h).2.2.1 = second (total m c) ∧ (outsAt0 m c 7 h).2.2.2.1 = k0_pay9 (total m c) := by
  unfold total
  rw [outsAt0_succ m c 6 h]
  generalize outsAt0 m c 6 _ = p
  rw [stAt0_C m c ⟨7, h⟩ p (by dsimp only; omega) (by dsimp only)]
  dsimp only
  refine ⟨?_, ?_, ?_, ?_⟩
  · rw [out0_C_5_eq]
  · rw [out0_C_6_eq]
  · rw [out0_C_7_eq]
  · rw [out0_C_8_eq]

/-- The last point is in the grid. -/
theorem seven_lt : 7 < cfg0.N := by rw [show cfg0.N = 8 from N_0]; decide

/-- The four results, at a row and a neuron. -/
theorem G5_at (b : Fin 4) (n : Fin 64) : G5 m c (ix2 b n) = routed 8 (W m c b 0) n := by
  rw [G5_last, ← outsAt0_sweep m c 7 seven_lt, (last_point m c _).1]
  refine (k0_pay2_at _ b n).trans ?_
  simp only [total_at]

/-- The second result: the best four weights of the second group. -/
theorem G6_at (b : Fin 4) (n : Fin 64) : G6 m c (ix2 b n) = routed 4 (W m c b 1) n := by
  rw [G6_last, ← outsAt0_sweep m c 7 seven_lt, (last_point m c _).2.1]
  refine (k0_pay8_at _ b n).trans ?_
  simp only [total_at]

/-- The third result is the second again. -/
theorem G7_at (b : Fin 4) (n : Fin 64) : G7 m c (ix2 b n) = routed 4 (W m c b 1) n := by
  rw [G7_last, ← outsAt0_sweep m c 7 seven_lt, (last_point m c _).2.2.1]
  refine (k0_pay8_at _ b n).trans ?_
  simp only [total_at]

/-- The fourth result: the best six weights of the third group. -/
theorem G8_at (b : Fin 4) (n : Fin 64) : G8 m c (ix2 b n) = routed 6 (W m c b 2) n := by
  rw [G8_last, ← outsAt0_sweep m c 7 seven_lt, (last_point m c _).2.2.2]
  refine (k0_pay9_at _ b n).trans ?_
  simp only [total_at]

end Cert.Router

end
-- ==== Proof.Reference.lean ====
/-
  THE REFERENCE'S SCORES AND WEIGHTS, read at their coordinates: each score one sum over the sixty-four entries, each softmax
  one group's, each weight the sum over the tokens.
-/
module

public import proofs.«01_k».proof.Proof.Weights
public import proofs.«01_k».proof.Proof.Gen.ReferenceIdeal.Read
public import Idealize.ShloMosaic.Lib.Pointwise

@[expose] public section

set_option maxRecDepth 16384

noncomputable section

namespace Cert.Router

open Idealize.ShloMosaic Idealize.ShloMosaic.StableHlo
open Cert.ReferenceIdeal Cert.ReferenceIdeal.Gen Cert.ReferenceIdeal.Read

/-- The reference's softmax of one group's scores, as its operations. -/
def hostSoftmax (l : FVec Ideal S4x4096x64 .f32) : FVec Ideal S4x4096x64 .f32 :=
  let e : FVec Ideal S4x4096x64 .f32 :=
    Host.exp (subf l (broadcastInDim S4x4096x64 ![0, 1, 2] bcast_S4x4096x1_S4x4096x64_0_1_2
      (broadcastInDim S4x4096x1 ![0, 1] bcast_S4x4096_S4x4096x1_0_1
        (maximumf (broadcastInDim S4x4096 ![] bcast_S_S4x4096 (constant (F := Ideal) S_ .f32 0xFF800000#32))
          (Host.reduce FloatOps.maximumf l (constant (F := Ideal) S_ .f32 0xFF800000#32)
            reducesTo_S4x4096x64_S4x4096_d2 h_S_)))))
  Host.divf e (broadcastInDim S4x4096x64 ![0, 1, 2] bcast_S4x4096x1_S4x4096x64_0_1_2
    (broadcastInDim S4x4096x1 ![0, 1] bcast_S4x4096_S4x4096x1_0_1
      (Host.reduceAdd e (constant (F := Ideal) S_ .f32 0x00000000#32) reducesTo_S4x4096x64_S4x4096_d2 h_S_)))

/-- A maximum is not below the value it starts from. -/
theorem start_le_peak (l : Fin 64 → EReal) : max (Ideal.ofBits .f32 0xFF800000#32) (peak l) = peak l :=
  max_eq_right ((Finset.le_fold_max _).2 (Or.inl le_rfl))

/-- The reference's softmax, read at one score, is the softmax of its sixty-four. -/
theorem hostSoftmax_at (l : FVec Ideal S4x4096x64 .f32) (b : Fin 4) (s : Fin 4096) (n : Fin 64) :
    hostSoftmax l (ix3 b s n) = softmax (fun k => l (ix3 b s k)) n := by
  have h := start_le_peak fun k => l (ix3 b s k)
  unfold peak at h
  pointwise [hostSoftmax]
  rw [h]
  rfl

variable (x0 : FVec Ideal S4x4096x2048 .f32) (x1 : FVec Ideal S4x4096 .f32) (x2 : FVec Ideal S64x2048 .f32)
  (x3 : FVec Ideal S64 .f32) (x4 : FVec Ideal S192x64 .f32)

/-- The reference's scores. -/
theorem scores_at (b : Fin 4) (s : Fin 4096) (n : Fin 192) :
    val_main_v9 (F := Ideal) x0 x2 x3 x4 (ix3 b s n)
      = score (fun k => x0 (ix3 b s k)) (fun d k => x2 (ix2 d k)) (fun d => x3 (ix1 d)) (fun n d => x4 (ix2 n d)) n := by
  pointwise [val_main_v9, val_main_v8, val_main_v7, val_main_v6, val_main_v5, val_main_cst, val_main_v4, val_main_call0_v2,
    val_main_call0_v1, val_main_call0_cst, val_main_call0_v0, val_main_v3, val_main_v2, val_main_v1, val_main_v0]
  rfl

/-- The softmax of the scores of group `g`, wherever those are what `l` holds. -/
theorem group_at (g : Fin 3) (l : FVec Ideal S4x4096x64 .f32)
    (hl : ∀ (b : Fin 4) (s : Fin 4096) (n : Fin 64),
      l (ix3 b s n) = val_main_v9 (F := Ideal) x0 x2 x3 x4 (ix3 b s (neuron g n)))
    (b : Fin 4) (s : Fin 4096) (n : Fin 64) : hostSoftmax l (ix3 b s n) = prefs x0 x2 x3 x4 b s g n := by
  rw [hostSoftmax_at]
  simp only [hl, scores_at]
  rfl

/-- The three groups are the scores at offsets 0, 64 and 128. -/
theorem v10_at (b : Fin 4) (s : Fin 4096) (n : Fin 64) :
    val_main_v10 (F := Ideal) x0 x2 x3 x4 (ix3 b s n) = val_main_v9 (F := Ideal) x0 x2 x3 x4 (ix3 b s (neuron 0 n)) := by
  have h : neuron 0 n = ⟨n.val, by omega⟩ := Fin.ext (Nat.zero_add _)
  rw [h]
  pointwise [val_main_v10]

theorem v11_at (b : Fin 4) (s : Fin 4096) (n : Fin 64) :
    val_main_v11 (F := Ideal) x0 x2 x3 x4 (ix3 b s n) = val_main_v9 (F := Ideal) x0 x2 x3 x4 (ix3 b s (neuron 1 n)) := by
  pointwise [val_main_v11]
  rfl

theorem v12_at (b : Fin 4) (s : Fin 4096) (n : Fin 64) :
    val_main_v12 (F := Ideal) x0 x2 x3 x4 (ix3 b s n) = val_main_v9 (F := Ideal) x0 x2 x3 x4 (ix3 b s (neuron 2 n)) := by
  pointwise [val_main_v12]
  rfl

/-- The four softmaxes are one function of their groups' scores. -/
theorem v23_eq : val_main_v23 (F := Ideal) x0 x2 x3 x4 = hostSoftmax (val_main_v10 (F := Ideal) x0 x2 x3 x4) := rfl
theorem v34_eq : val_main_v34 (F := Ideal) x0 x2 x3 x4 = hostSoftmax (val_main_v11 (F := Ideal) x0 x2 x3 x4) := rfl
theorem v45_eq : val_main_v45 (F := Ideal) x0 x2 x3 x4 = hostSoftmax (val_main_v11 (F := Ideal) x0 x2 x3 x4) := rfl
theorem v56_eq : val_main_v56 (F := Ideal) x0 x2 x3 x4 = hostSoftmax (val_main_v12 (F := Ideal) x0 x2 x3 x4) := rfl

/-- The weights of group `g`, wherever its softmax is what `p` holds. -/
theorem weighted_at (g : Fin 3) (p : FVec Ideal S4x4096x64 .f32)
    (hp : ∀ (b : Fin 4) (s : Fin 4096) (n : Fin 64), p (ix3 b s n) = prefs x0 x2 x3 x4 b s g n) (b : Fin 4) (n : Fin 64) :
    Host.dotGeneral dot_S4x4096_S4x4096x64_S4x64_1_1_n_2_0_0 none x1 p (ix2 b n) = weights x0 x1 x2 x3 x4 b g n := by
  pointwise []
  simp only [hp]
  rfl

/-- The weights of the first group, of the second (twice) and of the third. -/
theorem v57_at (b : Fin 4) (n : Fin 64) :
    val_main_v57 (F := Ideal) x0 x1 x2 x3 x4 (ix2 b n) = weights x0 x1 x2 x3 x4 b 0 n :=
  weighted_at x0 x1 x2 x3 x4 0 _ (fun b s n => by rw [v23_eq]; exact group_at x0 x2 x3 x4 0 _ (v10_at x0 x2 x3 x4) b s n) b n

theorem v58_at (b : Fin 4) (n : Fin 64) :
    val_main_v58 (F := Ideal) x0 x1 x2 x3 x4 (ix2 b n) = weights x0 x1 x2 x3 x4 b 1 n :=
  weighted_at x0 x1 x2 x3 x4 1 _ (fun b s n => by rw [v34_eq]; exact group_at x0 x2 x3 x4 1 _ (v11_at x0 x2 x3 x4) b s n) b n

theorem v59_at (b : Fin 4) (n : Fin 64) :
    val_main_v59 (F := Ideal) x0 x1 x2 x3 x4 (ix2 b n) = weights x0 x1 x2 x3 x4 b 1 n :=
  weighted_at x0 x1 x2 x3 x4 1 _ (fun b s n => by rw [v45_eq]; exact group_at x0 x2 x3 x4 1 _ (v11_at x0 x2 x3 x4) b s n) b n

theorem v60_at (b : Fin 4) (n : Fin 64) :
    val_main_v60 (F := Ideal) x0 x1 x2 x3 x4 (ix2 b n) = weights x0 x1 x2 x3 x4 b 2 n :=
  weighted_at x0 x1 x2 x3 x4 2 _ (fun b s n => by rw [v56_eq]; exact group_at x0 x2 x3 x4 2 _ (v12_at x0 x2 x3 x4) b s n) b n

end Cert.Router

end
-- ==== Proof.Sorting.lean ====
/-
  THE BEST FEW OF A ROW, TWO WAYS. A stable sort of a row's positions, greatest entry first, puts at position `p` the
  entry before which exactly `p` others come (`sortedFrom_eq_iff_place`). So the row into which the first `k` sorted
  entries are written back over zeros is the row kept where an entry's place is below `k` (`scatter_best`).
-/
module

public import proofs.«01_k».proof.Proof.Spec
public import Idealize.ShloMosaic.Lib.SortPrefix
public import Idealize.ShloMosaic.Lib.Routing.OpsSet
public import Idealize.ShloMosaic.Lib.Pointwise

@[expose] public section

set_option maxRecDepth 16384

noncomputable section

namespace Cert.Router

open Idealize.ShloMosaic

variable {N : ℕ}

/-- The stable sort read two ways: if two comparisons agree on every pair that stands in this order in the list, they
    sort it alike. -/
theorem stableSort_eq_of_pairs {ι : Type} (R R' : ι → ι → Bool) (l : List ι)
    (h : l.Pairwise fun a b => R b a = R' b a) : stableSort R l = stableSort R' l := by
  induction l with
  | nil => rfl
  | cons a l ih =>
    rw [List.pairwise_cons] at h
    unfold stableSort
    rw [ih h.2]
    exact insertBefore_congr R R' a _ fun b hb => h.1 b ((perm_stableSort R' l).mem_iff.1 hb)

/-- Two comparisons that agree on every pair in increasing order sort the positions alike. -/
theorem sortedFrom_eq_of_pairs (R R' : Fin N → Fin N → Bool) (h : ∀ a b, a < b → R b a = R' b a) :
    sortedFrom R = sortedFrom R' := by
  have hs : sortPositions N R = sortPositions N R' :=
    stableSort_eq_of_pairs R R' _ ((List.pairwise_lt_finRange N).imp fun {a b} hab => h a b hab)
  funext k
  unfold sortedFrom
  rw [List.get_of_eq hs]
  rfl

/-- Entry `a` of the row comes before entry `b`. -/
def before (w : Fin 64 → EReal) (a b : Fin 64) : Bool :=
  decide (w b < w a) || (decide (w a = w b) && decide (a < b))

/-- When entry `a` comes before entry `b`. -/
theorem before_iff (w : Fin 64 → EReal) (a b : Fin 64) :
    before w a b = true ↔ w b < w a ∨ (w a = w b ∧ a < b) := by
  simp [before]

/-- Coming before is a strict total order of the positions. -/
theorem before_total (w : Fin 64 → EReal) : StrictTotalBefore (before w) :=
  StrictTotalBefore.of_key_then_position (fun a b : EReal => decide (b < a)) w (by simp)
    (fun a b c hab hbc => by
      simp only [decide_eq_true_eq] at *
      exact lt_trans hbc hab)
    (fun a b => by
      rcases lt_trichotomy a b with h | h | h
      · exact Or.inr (Or.inr (decide_eq_true h))
      · exact Or.inr (Or.inl h)
      · exact Or.inl (decide_eq_true h))

/-- The stable sort by the entries alone is the sort by entry and then position. -/
theorem sortedFrom_eq_before (w : Fin 64 → EReal) :
    sortedFrom (fun a b : Fin 64 => decide (w b < w a)) = sortedFrom (before w) := by
  refine sortedFrom_eq_of_pairs _ _ fun a b hab => ?_
  have hba : ¬ b < a := not_lt.2 (le_of_lt hab)
  simp [before, hba]

/-- A place counts the entries that come before. -/
theorem place_eq (w : Fin 64 → EReal) (n : Fin 64) :
    place w n = (Finset.univ.filter fun j => before w j n = true).card := by
  unfold place
  congr 1
  exact Finset.filter_congr fun j _ => (before_iff w j n).symm

/-- An entry that comes before another has the smaller place. -/
theorem place_lt_of_before (w : Fin 64 → EReal) {a b : Fin 64} (h : before w a b = true) : place w a < place w b := by
  have T := before_total w
  rw [place_eq, place_eq]
  refine Finset.card_lt_card ⟨fun j hj => ?_, fun hs => ?_⟩
  · rw [Finset.mem_filter] at hj ⊢
    exact ⟨hj.1, T.trans _ _ _ hj.2 h⟩
  · have ha := hs (Finset.mem_filter.2 ⟨Finset.mem_univ a, h⟩)
    rw [Finset.mem_filter, T.irrefl] at ha
    exact absurd ha.2 (by decide)

/-- A place is below sixty-four. -/
theorem place_lt (w : Fin 64 → EReal) (n : Fin 64) : place w n < 64 := by
  rw [place_eq]
  have hlt : (Finset.univ.filter fun j => before w j n = true) ⊂ Finset.univ := by
    refine Finset.filter_ssubset.2 ⟨n, Finset.mem_univ n, ?_⟩
    rw [(before_total w).irrefl]
    decide
  simpa using Finset.card_lt_card hlt

/-- No two entries have the same place. -/
theorem place_injective (w : Fin 64 → EReal) : Function.Injective fun n => (⟨place w n, place_lt w n⟩ : Fin 64) := by
  intro a b hab
  have hv : place w a = place w b := congrArg Fin.val hab
  by_contra hne
  rcases (before_total w).total a b hne with h | h
  · exact absurd hv (place_lt_of_before w h).ne
  · exact absurd hv (place_lt_of_before w h).ne'

/-- The sort puts entry `n` at its place. -/
theorem sortedFrom_place (w : Fin 64 → EReal) (n : Fin 64) :
    sortedFrom (fun a b : Fin 64 => decide (w b < w a)) ⟨place w n, place_lt w n⟩ = n := by
  let e : Fin 64 ≃ Fin 64 := Equiv.ofBijective _ ⟨place_injective w, Finite.injective_iff_surjective.1 (place_injective w)⟩
  have hp : ∀ i, place w (e.symm i) = i.val := fun i => congrArg Fin.val (e.apply_symm_apply i)
  rw [sortedFrom_eq_before]
  have h := (before_total w).sortedFrom_eq_of_prefix (le_refl 64) e.symm e.symm.injective
    (fun i j hij => by
      by_contra hc
      have hlt := place_lt_of_before w (Bool.eq_true_of_not_eq_false hc)
      rw [hp, hp] at hlt
      exact absurd hij (not_lt.2 (le_of_lt hlt)))
    (fun i p hn => (hn (e p) (e.symm_apply_apply p)).elim) (e n)
  rw [e.symm_apply_apply] at h
  exact h

/-- Position `p` of the sorted row is entry `n` exactly when `p` is the place of `n`. -/
theorem sortedFrom_eq_iff_place (w : Fin 64 → EReal) (p n : Fin 64) :
    sortedFrom (fun a b : Fin 64 => decide (w b < w a)) p = n ↔ place w n = p.val := by
  constructor
  · intro h
    have h' : sortedFrom (fun a b : Fin 64 => decide (w b < w a)) p
        = sortedFrom (fun a b : Fin 64 => decide (w b < w a)) ⟨place w n, place_lt w n⟩ := by
      rw [h, sortedFrom_place]
    exact (congrArg Fin.val (sortedFrom_injective _ h')).symm
  · intro h
    have hq : p = ⟨place w n, place_lt w n⟩ := Fin.ext h.symm
    rw [hq, sortedFrom_place]

/-- The position of a row's `p`-th greatest entry. -/
def ranked {k : ℕ} (hk : k ≤ 64) (w : Fin 64 → EReal) (p : Fin k) : Fin 64 :=
  sortedFrom (fun a b : Fin 64 => decide (w b < w a)) (p.castLE hk)

/-- The first `k` sorted entries of each row, written over zeros at their positions: the row's best `k`. -/
theorem scatter_best {k : ℕ} (hk : k ≤ 64)
    (d : ScatterDims (⟨2, ![4, 64]⟩ : Shape) (⟨3, ![4, k, 2]⟩ : Shape) (⟨2, ![4, k]⟩ : Shape))
    (hiw : d.insertedWindowDims = [0, 1]) (hsd : d.scatterDimsToOperandDims = [0, 1]) (hivd : d.indexVectorDim = 2)
    (w : (⟨2, ![4, 64]⟩ : Shape).Idx → EReal) (zero : (⟨2, ![4, 64]⟩ : Shape).Idx → EReal) (hz : ∀ i, zero i = 0)
    (idx : IVec (⟨3, ![4, k, 2]⟩ : Shape) 32) (upd : (⟨2, ![4, k]⟩ : Shape).Idx → EReal)
    (hrow : ∀ (b : Fin 4) (p : Fin k), idx (ix3 b p (0 : Fin 2)) = BitVec.ofNat 32 b.val)
    (hcol : ∀ (b : Fin 4) (p : Fin k), idx (ix3 b p (1 : Fin 2)) = BitVec.ofNat 32 (ranked hk (fun n => w (ix2 b n)) p).val)
    (hupd : ∀ (b : Fin 4) (p : Fin k), upd (ix2 b p) = w (ix2 b (ranked hk (fun n => w (ix2 b n)) p)))
    (b : Fin 4) (n : Fin 64) :
    Host.scatter d (fun _ y => y) zero idx upd (ix2 b n) = best k (fun n => w (ix2 b n)) n := by
  have hword : ∀ q : ℕ, q < 64 → (BitVec.ofNat 32 q).toInt = (q : Int) := by decide
  have lands : ∀ (b' : Fin 4) (p : Fin k), d.resultIdx? (ix2 b' p) idx = some (ix2 b n)
      ↔ b' = b ∧ ranked hk (fun n => w (ix2 b' n)) p = n := by
    intro b' p
    refine (Routing.scatter_lands2 d hiw hsd hivd idx b' p b n).trans ?_
    refine and_congr ?_ ?_
    · refine Iff.trans (Eq.congr (congrArg BitVec.toInt (hrow b' p)) rfl) ?_
      rw [hword b'.val (by omega), Nat.cast_inj, Fin.ext_iff]
    · refine Iff.trans (Eq.congr (congrArg BitVec.toInt (hcol b' p)) rfl) ?_
      rw [hword _ (ranked hk (fun n => w (ix2 b' n)) p).isLt, Nat.cast_inj, Fin.ext_iff]
  unfold best
  by_cases hn : place (fun n => w (ix2 b n)) n < k
  · rw [if_pos hn]
    have hr : ranked hk (fun n => w (ix2 b n)) ⟨_, hn⟩ = n := (sortedFrom_eq_iff_place _ _ _).2 rfl
    refine Routing.scatter_set_hit d zero idx upd _ _ (fun q hq => ?_) (ix2 b ⟨_, hn⟩) ((lands b ⟨_, hn⟩).2 ⟨rfl, hr⟩)
    obtain ⟨q0, q1, rfl⟩ : ∃ (a : Fin 4) (c : Fin k), q = ix2 a c := ⟨q 0, q 1, eq_ix2 q⟩
    obtain ⟨rfl, hq2⟩ := (lands _ _).1 hq
    rw [hupd, hq2]
  · rw [if_neg hn, Routing.scatter_set_miss d zero idx upd _ (fun q hq => ?_), hz]
    obtain ⟨q0, q1, rfl⟩ : ∃ (a : Fin 4) (c : Fin k), q = ix2 a c := ⟨q 0, q 1, eq_ix2 q⟩
    obtain ⟨rfl, hq2⟩ := (lands _ _).1 hq
    have := (sortedFrom_eq_iff_place (fun n => w (ix2 q0 n)) (q1.castLE hk) n).1 hq2
    rw [this] at hn
    exact hn q1.isLt

end Cert.Router

end
-- ==== Proof.TopK.lean ====
/-
  THE FIRST FEW SORTED. The host's top-k of a row, read at a position: the row's entry there in the sorted order, and its
  place in the row as a word.
-/
module

public import proofs.«01_k».proof.Proof.Sorting
public import Idealize.ShloMosaic.Lib.Pointwise

@[expose] public section

set_option maxRecDepth 16384

noncomputable section

namespace Cert.Router

open Idealize.ShloMosaic

variable (w : (⟨2, ![4, 64]⟩ : Shape).Idx → Ideal .f32)

/-- A row sorted along its entries, with what is carried beside it. -/
theorem sort2_at {β : Type} (y : (⟨2, ![4, 64]⟩ : Shape).Idx → β) (b : Fin 4) (q : Fin 64) :
    (Host.sort2 (⟨2, ![4, 64]⟩ : Shape) 1 (fun l r : Ideal .f32 × β => FloatOps.cmpfTotal .gt l.1 r.1) w y).1 (ix2 b q)
        = w (ix2 b (ranked le_rfl (fun n => w (ix2 b n)) q))
      ∧ (Host.sort2 (⟨2, ![4, 64]⟩ : Shape) 1 (fun l r : Ideal .f32 × β => FloatOps.cmpfTotal .gt l.1 r.1) w y).2 (ix2 b q)
        = y (ix2 b (ranked le_rfl (fun n => w (ix2 b n)) q)) := by
  have along : ∀ k : Fin 64, (ix2 b q : (⟨2, ![4, 64]⟩ : Shape).Idx).along 1 k = ix2 b k := fun k => by idx_ext
  have hcmp : ∀ u v : EReal, ((FloatOps.cmpfTotal (F := Ideal) (φ := .f32) .gt u v : BitVec 1) == 1#1) = decide (v < u) := by
    intro u v
    show (BitVec.ofBool (decide (v < u)) == 1#1) = _
    cases decide (v < u) <;> rfl
  have hs : sortedFrom (fun k k' : Fin 64 =>
        (FloatOps.cmpfTotal (F := Ideal) (φ := .f32) .gt (w ((ix2 b q : (⟨2, ![4, 64]⟩ : Shape).Idx).along 1 k))
          (w ((ix2 b q : (⟨2, ![4, 64]⟩ : Shape).Idx).along 1 k')) : BitVec 1) == 1#1) q
      = ranked le_rfl (fun n => w (ix2 b n)) q := by
    unfold ranked
    refine congrFun (congrArg sortedFrom (funext fun k => funext fun k' => ?_)) q
    rw [along, along]
    exact hcmp _ _
  constructor
  · refine Eq.trans ?_ (congrArg w ((congrArg _ hs).trans (along _)))
    rfl
  · refine Eq.trans ?_ (congrArg y ((congrArg _ hs).trans (along _)))
    rfl

/-- The host's top-k at a position. -/
theorem topK_at {k : ℕ} (hk : k ≤ 64)
    (h : (⟨2, ![4, 64]⟩ : Shape).Slices (fun _ => 0) (⟨2, ![4, k]⟩ : Shape)) (b : Fin 4) (p : Fin k) :
    (Host.topK (⟨2, ![4, k]⟩ : Shape) 1 (FloatOps.cmpfTotal .gt) w h).1 (ix2 b p)
        = w (ix2 b (ranked hk (fun n => w (ix2 b n)) p))
      ∧ (Host.topK (⟨2, ![4, k]⟩ : Shape) 1 (FloatOps.cmpfTotal .gt) w h).2 (ix2 b p)
        = BitVec.ofNat 32 (ranked hk (fun n => w (ix2 b n)) p).val := by
  have hr : ranked le_rfl (fun n => w (ix2 b n)) (p.castLE hk) = ranked hk (fun n => w (ix2 b n)) p := rfl
  have hi : ∀ {α : Type} (v : (⟨2, ![4, 64]⟩ : Shape).Idx → α),
      extractStridedSlice (⟨2, ![4, k]⟩ : Shape) (fun _ => 0) v h (ix2 b p) = v (ix2 b (p.castLE hk)) := by
    intro α v
    refine congrArg v (funext fun a => Fin.ext ?_)
    match a with
    | ⟨0, _⟩ => show 0 + b.val = b.val; omega
    | ⟨1, _⟩ => show 0 + p.val = p.val; omega
  rw [← hr]
  unfold Host.topK
  dsimp only
  rw [hi, hi]
  refine ⟨(sort2_at w _ b (p.castLE hk)).1, (sort2_at w _ b (p.castLE hk)).2.trans ?_⟩
  generalize ranked le_rfl (fun n => w (ix2 b n)) (p.castLE hk) = q
  rfl

end Cert.Router

end
-- ==== Proof.HostTail.lean ====
/-
  THE REFERENCE'S ROUTING: the best `k` entries of each row and their positions, the positions turned to pairs of words,
  the entries written back over zeros at those pairs, and the rows divided by their sums. Read at a row and an entry it is
  `routed k`, whatever the weights.
-/
module

public import proofs.«01_k».proof.Proof.TopK
public import proofs.«01_k».proof.Proof.Gen.ReferenceIdeal
public import Idealize.ShloMosaic.Lib.Pointwise
public import Idealize.ShloMosaic.Lib.Routing.OpsPair

@[expose] public section

set_option maxRecDepth 16384

noncomputable section

namespace Cert.Router

open Idealize.ShloMosaic Idealize.ShloMosaic.StableHlo
open Cert.ReferenceIdeal Cert.ReferenceIdeal.Gen

/-- The number of each row, as a word; a negative one would count from the end. -/
def rowWords : IVec S4x1 32 :=
  let a : IVec S4x1 32 := broadcastInDim S4x1 ![0] bcast_S4_S4x1_0 (iotaInDim S4 32 0)
  select (cmpi .slt a (broadcastInDim S4x1 ![] bcast_S_S4x1 (constantI S_ 32 0#32)))
    (addi a (broadcastInDim S4x1 ![] bcast_S_S4x1 (constantI S_ 32 4#32))) a

/-- One of the two words that say where an entry goes: the row, then the position; the wrap of a negative one kept. -/
def pairWord (b : Fin 4) (x : BitVec 32) (j : Fin 2) : BitVec 32 :=
  if j.val < 1 then
    Scalar.select (IntOp.cmpi .slt (BitVec.ofNat 32 b.val) 0#32) (IntOp.addi (BitVec.ofNat 32 b.val) 4#32)
      (BitVec.ofNat 32 b.val)
  else Scalar.select (IntOp.cmpi .slt x 0#32) (IntOp.addi x 64#32) x

/-- The first word of a pair is the row's number, which is not negative. -/
theorem pairWord_row (b : Fin 4) (x : BitVec 32) : pairWord b x 0 = BitVec.ofNat 32 b.val := by
  rw [pairWord, if_pos (by decide)]
  exact Routing.wrap_of_lt _ _ (by rw [BitVec.toNat_ofNat]; omega)

/-- The second word is the position, which is not negative either. -/
theorem pairWord_col (b : Fin 4) (q : Fin 64) : pairWord b (BitVec.ofNat 32 q.val) 1 = BitVec.ofNat 32 q.val := by
  rw [pairWord, if_neg (by decide)]
  exact Routing.wrap_of_lt _ _ (by rw [BitVec.toNat_ofNat]; omega)

/-- Rows divided by their sums and a small constant. -/
def renorm (z : FVec Ideal S4x64 .f32) : FVec Ideal S4x64 .f32 :=
  Host.divf z (broadcastInDim S4x64 ![0, 1] bcast_S4x1_S4x64_0_1
    (addf (broadcastInDim S4x1 ![0] bcast_S4_S4x1_0
        (Host.reduceAdd z (constant (F := Ideal) S_ .f32 0x00000000#32) reducesTo_S4x64_S4_d1 h_S_))
      (broadcastInDim S4x1 ![] bcast_S_S4x1 (constant (F := Ideal) S_ .f32 0x322BCC77#32))))

/-- A renormalised row, read at one entry. -/
theorem renorm_at (z : FVec Ideal S4x64 .f32) (b : Fin 4) (n : Fin 64) :
    renorm z (ix2 b n) = Ideal.div (z (ix2 b n)) ((∑ j, z (ix2 b j)) + Ideal.ofBits .f32 0x322BCC77#32) := by
  pointwise [renorm]

section Tail

variable {k : ℕ} (h0 : S_.BroadcastsInDim ⟨2, ![4, k]⟩ ![]) (h1 : S4x1.BroadcastsInDim ⟨2, ![4, k]⟩ ![0, 1])
  (h2 : (⟨2, ![4, k]⟩ : Shape).BroadcastsInDim ⟨3, ![4, k, 1]⟩ ![0, 1])
  (h3 : Shape.Concatenates [⟨3, ![4, k, 1]⟩, ⟨3, ![4, k, 1]⟩] ⟨3, ![4, k, 2]⟩ 2)

/-- The pairs of words, for `k` positions a row. -/
def pairs (i : IVec ⟨2, ![4, k]⟩ 32) : IVec ⟨3, ![4, k, 2]⟩ 32 :=
  concatenate ⟨3, ![4, k, 2]⟩ 2
    [⟨⟨3, ![4, k, 1]⟩, broadcastInDim ⟨3, ![4, k, 1]⟩ ![0, 1] h2 (broadcastInDim ⟨2, ![4, k]⟩ ![0, 1] h1 rowWords)⟩,
      ⟨⟨3, ![4, k, 1]⟩, broadcastInDim ⟨3, ![4, k, 1]⟩ ![0, 1] h2
        (select (cmpi .slt i (broadcastInDim ⟨2, ![4, k]⟩ ![] h0 (constantI S_ 32 0#32)))
          (addi i (broadcastInDim ⟨2, ![4, k]⟩ ![] h0 (constantI S_ 32 64#32))) i)⟩] h3

/-- The whole routing of the rows of `w`. -/
def tail (hs : S4x64.Slices (fun _ => 0) ⟨2, ![4, k]⟩) (d : ScatterDims S4x64 ⟨3, ![4, k, 2]⟩ ⟨2, ![4, k]⟩)
    (w : FVec Ideal S4x64 .f32) : FVec Ideal S4x64 .f32 :=
  renorm (Host.scatter d (fun _ y => y)
    (broadcastInDim S4x64 ![] bcast_S_S4x64 (constant (F := Ideal) S_ .f32 0x00000000#32))
    (pairs h0 h1 h2 h3 (Host.topK ⟨2, ![4, k]⟩ 1 (FloatOps.cmpfTotal .gt) w hs).2)
    (Host.topK ⟨2, ![4, k]⟩ 1 (FloatOps.cmpfTotal .gt) w hs).1)

/-- The array written into holds zeros. -/
theorem zeros_at (i : S4x64.Idx) :
    broadcastInDim S4x64 ![] bcast_S_S4x64 (constant (F := Ideal) S_ .f32 0x00000000#32) i = 0 := by
  obtain ⟨b, n, rfl⟩ : ∃ (b : Fin 4) (n : Fin 64), i = ix2 b n := ⟨i 0, i 1, eq_ix2 i⟩
  pointwise []

/-- The routing, read at a row and an entry. -/
theorem tail_at (hs : S4x64.Slices (fun _ => 0) ⟨2, ![4, k]⟩) (d : ScatterDims S4x64 ⟨3, ![4, k, 2]⟩ ⟨2, ![4, k]⟩)
    (w : FVec Ideal S4x64 .f32) (hk : k ≤ 64)
    (hp : ∀ (i : IVec ⟨2, ![4, k]⟩ 32) (b : Fin 4) (p : Fin k) (j : Fin 2),
      pairs h0 h1 h2 h3 i (ix3 b p j) = pairWord b (i (ix2 b p)) j)
    (hiw : d.insertedWindowDims = [0, 1]) (hsd : d.scatterDimsToOperandDims = [0, 1]) (hivd : d.indexVectorDim = 2)
    (b : Fin 4) (n : Fin 64) : tail h0 h1 h2 h3 hs d w (ix2 b n) = routed k (fun n => w (ix2 b n)) n := by
  have hb := scatter_best hk d hiw hsd hivd w _ zeros_at
    (pairs h0 h1 h2 h3 (Host.topK ⟨2, ![4, k]⟩ 1 (FloatOps.cmpfTotal .gt) w hs).2)
    (Host.topK ⟨2, ![4, k]⟩ 1 (FloatOps.cmpfTotal .gt) w hs).1
    (fun b p => by rw [hp, pairWord_row])
    (fun b p => by rw [hp, (topK_at w hk hs b p).2, pairWord_col])
    (fun b p => (topK_at w hk hs b p).1)
  rw [tail, renorm_at, hb, routed]
  simp only [hb]

end Tail

/-- Eight, four and six entries a row. -/
theorem pairs8_at (i : IVec S4x8 32) (b : Fin 4) (p : Fin 8) (j : Fin 2) :
    pairs bcast_S_S4x8 bcast_S4x1_S4x8_0_1 bcast_S4x8_S4x8x1_0_1 concatenates_S4x8x1_S4x8x1_S4x8x2_d2 i (ix3 b p j)
      = pairWord b (i (ix2 b p)) j := by
  pointwise [pairs, rowWords, pairWord]
  simp only [dite_eq_ite]

theorem pairs4_at (i : IVec S4x4 32) (b : Fin 4) (p : Fin 4) (j : Fin 2) :
    pairs bcast_S_S4x4 bcast_S4x1_S4x4_0_1 bcast_S4x4_S4x4x1_0_1 concatenates_S4x4x1_S4x4x1_S4x4x2_d2 i (ix3 b p j)
      = pairWord b (i (ix2 b p)) j := by
  pointwise [pairs, rowWords, pairWord]
  simp only [dite_eq_ite]

theorem pairs6_at (i : IVec S4x6 32) (b : Fin 4) (p : Fin 6) (j : Fin 2) :
    pairs bcast_S_S4x6 bcast_S4x1_S4x6_0_1 bcast_S4x6_S4x6x1_0_1 concatenates_S4x6x1_S4x6x1_S4x6x2_d2 i (ix3 b p j)
      = pairWord b (i (ix2 b p)) j := by
  pointwise [pairs, rowWords, pairWord]
  simp only [dite_eq_ite]

end Cert.Router

end
-- ==== Proof.ReferenceResults.lean ====
/-
  THE REFERENCE'S RESULTS: each is the routing of one group's weights, with eight, four, four and six entries a row.
-/
module

public import proofs.«01_k».proof.Proof.Reference
public import proofs.«01_k».proof.Proof.HostTail

@[expose] public section

set_option maxRecDepth 16384

noncomputable section

namespace Cert.Router

open Idealize.ShloMosaic Idealize.ShloMosaic.StableHlo
open Cert.ReferenceIdeal Cert.ReferenceIdeal.Gen Cert.ReferenceIdeal.Read

variable (x0 : FVec Ideal S4x4096x2048 .f32) (x1 : FVec Ideal S4x4096 .f32) (x2 : FVec Ideal S64x2048 .f32)
  (x3 : FVec Ideal S64 .f32) (x4 : FVec Ideal S192x64 .f32)

/-- The routing with eight, four and six entries a row. -/
abbrev tail8 : FVec Ideal S4x64 .f32 → FVec Ideal S4x64 .f32 :=
  tail bcast_S_S4x8 bcast_S4x1_S4x8_0_1 bcast_S4x8_S4x8x1_0_1 concatenates_S4x8x1_S4x8x1_S4x8x2_d2 sliceFits_S4x64_S4x8
    scatter_S4x64_S4x8x2_S4x8_n_01_01_2

abbrev tail4 : FVec Ideal S4x64 .f32 → FVec Ideal S4x64 .f32 :=
  tail bcast_S_S4x4 bcast_S4x1_S4x4_0_1 bcast_S4x4_S4x4x1_0_1 concatenates_S4x4x1_S4x4x1_S4x4x2_d2 sliceFits_S4x64_S4x4
    scatter_S4x64_S4x4x2_S4x4_n_01_01_2

abbrev tail6 : FVec Ideal S4x64 .f32 → FVec Ideal S4x64 .f32 :=
  tail bcast_S_S4x6 bcast_S4x1_S4x6_0_1 bcast_S4x6_S4x6x1_0_1 concatenates_S4x6x1_S4x6x1_S4x6x2_d2 sliceFits_S4x64_S4x6
    scatter_S4x64_S4x6x2_S4x6_n_01_01_2

/-- The four results are the routing of their groups' weights. -/
theorem v84_eq : val_main_v84 (F := Ideal) x0 x1 x2 x3 x4 = tail8 (val_main_v57 (F := Ideal) x0 x1 x2 x3 x4) := rfl
theorem v108_eq : val_main_v108 (F := Ideal) x0 x1 x2 x3 x4 = tail4 (val_main_v58 (F := Ideal) x0 x1 x2 x3 x4) := rfl
theorem v132_eq : val_main_v132 (F := Ideal) x0 x1 x2 x3 x4 = tail4 (val_main_v59 (F := Ideal) x0 x1 x2 x3 x4) := rfl
theorem v156_eq : val_main_v156 (F := Ideal) x0 x1 x2 x3 x4 = tail6 (val_main_v60 (F := Ideal) x0 x1 x2 x3 x4) := rfl

/-- The first result, at a row and an entry. -/
theorem v84_at (b : Fin 4) (n : Fin 64) :
    val_main_v84 (F := Ideal) x0 x1 x2 x3 x4 (ix2 b n) = routed 8 (weights x0 x1 x2 x3 x4 b 0) n := by
  rw [v84_eq, tail8, tail_at _ _ _ _ _ _ _ (by decide) pairs8_at rfl rfl rfl]
  simp only [v57_at]

/-- The second result. -/
theorem v108_at (b : Fin 4) (n : Fin 64) :
    val_main_v108 (F := Ideal) x0 x1 x2 x3 x4 (ix2 b n) = routed 4 (weights x0 x1 x2 x3 x4 b 1) n := by
  rw [v108_eq, tail4, tail_at _ _ _ _ _ _ _ (by decide) pairs4_at rfl rfl rfl]
  simp only [v58_at]

/-- The third result. -/
theorem v132_at (b : Fin 4) (n : Fin 64) :
    val_main_v132 (F := Ideal) x0 x1 x2 x3 x4 (ix2 b n) = routed 4 (weights x0 x1 x2 x3 x4 b 1) n := by
  rw [v132_eq, tail4, tail_at _ _ _ _ _ _ _ (by decide) pairs4_at rfl rfl rfl]
  simp only [v59_at]

/-- The fourth result. -/
theorem v156_at (b : Fin 4) (n : Fin 64) :
    val_main_v156 (F := Ideal) x0 x1 x2 x3 x4 (ix2 b n) = routed 6 (weights x0 x1 x2 x3 x4 b 2) n := by
  rw [v156_eq, tail6, tail_at _ _ _ _ _ _ _ (by decide) pairs6_at rfl rfl rfl]
  simp only [v60_at]

end Cert.Router

end
-- ==== Proof.Claims.lean ====
/-
  THE FIVE CLAIMS, each from its run: the two kernels' frames and the reference's, the one named constant, and the equality
  of the four results.
-/
module

public import proofs.«01_k».proof.Defs
public import proofs.«01_k».proof.Proof.Accumulate
public import proofs.«01_k».proof.Proof.ReferenceResults
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run

@[expose] public section

set_option maxRecDepth 16384

noncomputable section

namespace Cert.Router

open Idealize.ShloMosaic Idealize.SL.Sem

/-- The kernel as printed ends, leaves its arguments and is quiescent. -/
theorem kernel_frame : Cert.quiescent_Kernel := fun m ρ _ => Cert.Kernel.Gen.frame m ρ

/-- So does its idealization. -/
theorem ideal_frame : Cert.quiescent_KernelIdeal := fun m ρ _ => Cert.KernelIdeal.Gen.frame m ρ

/-- So does the reference, which has no semaphore at all. -/
theorem reference_frame : Cert.quiescent_ReferenceIdeal := fun m ρ _ =>
  (θ_run Cert.ReferenceIdeal.defs _ _).mono
    (fun r h => ⟨fun c => (h c).2.2.2.2, sem_eq_zero_of_no_sems (by decide) r.2⟩)
    (Cert.ReferenceIdeal.Value.run (F := Ideal) m ρ)

/-- The one rewrite: the printed constant under its name. -/
theorem floor_named : Cert.preserves_Kernel_KernelIdeal :=
  IdealRules.named_const.statement Cert.KernelIdeal.κ "floor_sq" .f32 0x179ABE15#32
    ((5316911940649 / 5316911983139663491615228241121378304 : ℝ) : EReal) rfl

/-- Two 4×64 arrays that agree at every row and entry are equal. -/
theorem rows_ext {f g : (⟨2, ![4, 64]⟩ : Shape).Idx → EReal} (h : ∀ (b : Fin 4) (n : Fin 64), f (ix2 b n) = g (ix2 b n)) :
    f = g := by
  funext q
  rw [eq_ix2 q]
  exact h (q 0) (q 1)

/-- From equal arguments the reference's four results are the kernel's: both are the routed weights. -/
theorem results_agree : Cert.algebraic_KernelIdeal_ReferenceIdeal := by
  intro m ρ m' ρ' _ hagree
  refine ⟨_, _, _, _, Cert.KernelIdeal.Value.run (F := Ideal) m ρ, ?_⟩
  refine (θ_run Cert.ReferenceIdeal.defs _ _).mono (fun _ h c => ?_) (Cert.ReferenceIdeal.Value.run (F := Ideal) m' ρ')
  obtain ⟨r0, r1, r2, r3, hargs⟩ := h c
  obtain ⟨a0, a1, a2, a3, a4⟩ := hagree c
  have hw : ∀ (b : Fin 4) (g : Fin 3),
      weights (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4)) b g
      = W m c b g := fun b g => by rw [a0, a1, a2, a3, a4]
  refine ⟨r0.trans ((Cert.ReferenceIdeal.Read.val_main_v84_eq _).trans (rows_ext fun b n => ?_)),
    r1.trans ((Cert.ReferenceIdeal.Read.val_main_v108_eq _).trans (rows_ext fun b n => ?_)),
    r2.trans ((Cert.ReferenceIdeal.Read.val_main_v132_eq _).trans (rows_ext fun b n => ?_)),
    r3.trans ((Cert.ReferenceIdeal.Read.val_main_v156_eq _).trans (rows_ext fun b n => ?_)), hargs⟩
  · exact ((v84_at _ _ _ _ _ b n).trans (congrArg (routed 8 · n) (hw b 0))).trans (G5_at m c b n).symm
  · exact ((v108_at _ _ _ _ _ b n).trans (congrArg (routed 4 · n) (hw b 1))).trans (G6_at m c b n).symm
  · exact ((v132_at _ _ _ _ _ b n).trans (congrArg (routed 4 · n) (hw b 1))).trans (G7_at m c b n).symm
  · exact ((v156_at _ _ _ _ _ b n).trans (congrArg (routed 6 · n) (hw b 2))).trans (G8_at m c b n).symm

end Cert.Router

end
-- ==== Proof.lean ====
/-
  THE PROOF of the five claims, put together from the modules under Proof/: what one token's score, softmax and weight are
  (Spec, Weights), what one grid point computes and where its blocks lie (Norm, Block, Blocks, Body), what the accumulator
  and the results hold (Finish, Accumulate), what the reference computes (Sorting, TopK, HostTail, Reference,
  ReferenceResults), and the claims themselves (Claims).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Claims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Router.kernel_frame, Cert.Router.ideal_frame, Cert.Router.reference_frame, Cert.Router.floor_named,
  Cert.Router.results_agree⟩

end Cert.Proof

end
